-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x4x256x32x32 : Shape := ⟨5, ![8, 4, 256, 32, 32]⟩
abbrev S8192x256 : Shape := ⟨2, ![8192, 256]⟩
abbrev S8x4x32x32x256 : Shape := ⟨5, ![8, 4, 32, 32, 256]⟩
abbrev S_ : Shape := ⟨0, ![]⟩
abbrev S8x4x32x32 : Shape := ⟨4, ![8, 4, 32, 32]⟩
abbrev S32x1x1024 : Shape := ⟨3, ![32, 1, 1024]⟩
abbrev S8192 : Shape := ⟨1, ![8192]⟩
abbrev S8192x1 : Shape := ⟨2, ![8192, 1]⟩
abbrev S32x256x1024 : Shape := ⟨3, ![32, 256, 1024]⟩
abbrev S1x256x1024 : Shape := ⟨3, ![1, 256, 1024]⟩
abbrev S1x1x1024 : Shape := ⟨3, ![1, 1, 1024]⟩
abbrev S256x1024 : Shape := ⟨2, ![256, 1024]⟩
abbrev S1x1024 : Shape := ⟨2, ![1, 1024]⟩
abbrev S512x1024 : Shape := ⟨2, ![512, 1024]⟩
abbrev S512x256 : Shape := ⟨2, ![512, 256]⟩
abbrev S512x1 : Shape := ⟨2, ![512, 1]⟩
abbrev S1024 : Shape := ⟨1, ![1024]⟩

abbrev nBuf : Space → Nat
  | .hbm => 16
  | .vmem => 8
  | .smem => 0
  | _ => 0

abbrev bufTy : (tb : Table) → Fin (tcTables nBuf tb) → BufTy
  | .hbm, ⟨0, _⟩ => ⟨S8x4x256x32x32, .f32⟩
  | .hbm, ⟨1, _⟩ => ⟨S8192x256, .f32⟩
  | .hbm, ⟨2, _⟩ => ⟨S8x4x32x32x256, .f32⟩
  | .hbm, ⟨3, _⟩ => ⟨S8x4x32x32x256, .f32⟩
  | .hbm, ⟨4, _⟩ => ⟨S_, .f32⟩
  | .hbm, ⟨5, _⟩ => ⟨S8x4x32x32, .f32⟩
  | .hbm, ⟨6, _⟩ => ⟨S32x1x1024, .f32⟩
  | .hbm, ⟨7, _⟩ => ⟨S8192x256, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S8x4x256x32x32, .bf16⟩
  | .hbm, ⟨12, _⟩ => ⟨S32x256x1024, .bf16⟩
  | .hbm, ⟨13, _⟩ => ⟨S8192x256, .bf16⟩
  | .hbm, ⟨14, _⟩ => ⟨S32x1x1024, .i32⟩
  | .hbm, ⟨15, _⟩ => ⟨S8x4x32x32, .i32⟩
  | .local _ .vmem, ⟨0, _⟩ => ⟨S1x256x1024, .bf16⟩
  | .local _ .vmem, ⟨1, _⟩ => ⟨S1x256x1024, .bf16⟩
  | .local _ .vmem, ⟨2, _⟩ => ⟨S8192x256, .bf16⟩
  | .local _ .vmem, ⟨3, _⟩ => ⟨S1x1x1024, .f32⟩
  | .local _ .vmem, ⟨4, _⟩ => ⟨S1x1x1024, .f32⟩
  | .local _ .vmem, ⟨5, _⟩ => ⟨S8192x1, .f32⟩
  | .local _ .vmem, ⟨6, _⟩ => ⟨S1x1x1024, .i32⟩
  | .local _ .vmem, ⟨7, _⟩ => ⟨S1x1x1024, .i32⟩
  | _, _ => ⟨S8x4x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8192x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S8x4x256x32x32 : Shape := ⟨5, ![8, 4, 256, 32, 32]⟩
abbrev S8192x256 : Shape := ⟨2, ![8192, 256]⟩
abbrev S8x4x32x32x256 : Shape := ⟨5, ![8, 4, 32, 32, 256]⟩
abbrev S32768x256 : Shape := ⟨2, ![32768, 256]⟩
abbrev S_ : Shape := ⟨0, ![]⟩
abbrev S32768 : Shape := ⟨1, ![32768]⟩
abbrev S32768x1 : Shape := ⟨2, ![32768, 1]⟩
abbrev S8192 : Shape := ⟨1, ![8192]⟩
abbrev S1x8192 : Shape := ⟨2, ![1, 8192]⟩
abbrev S32768x8192 : Shape := ⟨2, ![32768, 8192]⟩
abbrev S256x8192 : Shape := ⟨2, ![256, 8192]⟩
abbrev S8x4x32x32 : Shape := ⟨4, ![8, 4, 32, 32]⟩

abbrev nBuf : Space → Nat
  | .hbm => 27
  | .vmem => 0
  | .smem => 0
  | _ => 0

abbrev bufTy : (tb : Table) → Fin (tcTables nBuf tb) → BufTy
  | .hbm, ⟨0, _⟩ => ⟨S8x4x256x32x32, .f32⟩
  | .hbm, ⟨1, _⟩ => ⟨S8192x256, .f32⟩
  | .hbm, ⟨2, _⟩ => ⟨S8x4x32x32x256, .f32⟩
  | .hbm, ⟨3, _⟩ => ⟨S32768x256, .f32⟩
  | .hbm, ⟨4, _⟩ => ⟨S32768x256, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S8192x256, .f32⟩
  | .hbm, ⟨9, _⟩ => ⟨S_, .f32⟩
  | .hbm, ⟨10, _⟩ => ⟨S8192, .f32⟩
  | .hbm, ⟨11, _⟩ => ⟨S1x8192, .f32⟩
  | .hbm, ⟨12, _⟩ => ⟨S32768x8192, .f32⟩
  | .hbm, ⟨13, _⟩ => ⟨S32768x8192, .f32⟩
  | .hbm, ⟨14, _⟩ => ⟨S32768x8192, .f32⟩
  | .hbm, ⟨15, _⟩ => ⟨S256x8192, .f32⟩
  | .hbm, ⟨16, _⟩ => ⟨S32768x8192, .f32⟩
  | .hbm, ⟨17, _⟩ => ⟨S_, .f32⟩
  | .hbm, ⟨18, _⟩ => ⟨S32768x8192, .f32⟩
  | .hbm, ⟨19, _⟩ => ⟨S32768x8192, .f32⟩
  | .hbm, ⟨20, _⟩ => ⟨S32768x8192, .f32⟩
  | .hbm, ⟨21, _⟩ => ⟨S32768x8192, .i32⟩
  | .hbm, ⟨22, _⟩ => ⟨S_, .f32⟩
  | .hbm, ⟨23, _⟩ => ⟨S_, .i32⟩
  | .hbm, ⟨24, _⟩ => ⟨S32768, .f32⟩
  | .hbm, ⟨25, _⟩ => ⟨S32768, .i32⟩
  | .hbm, ⟨26, _⟩ => ⟨S8x4x32x32, .i32⟩
  | _, _ => ⟨S8x4x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Proof.Best.lean ====
/-
  The least value over a set of code numbers, with the first number that reaches it: the one notion both programs compute, and how
  it grows by one number, joins over two sets, and is read off a family of sets.
-/
module

public import Mathlib.Data.EReal.Basic

@[expose] public section

noncomputable section

namespace Cert.Hand

/-- `a` is the least of `f` over the set `P` and `⊤`; if it lies below `⊤`, then `i` is the first number of `P` with that value, and
    otherwise `i` is the default `d`. -/
structure Best (f : ℕ → EReal) (P : ℕ → Prop) (d : ℕ) (a : EReal) (i : ℕ) : Prop where
  /-- The value bounds `f` from below on the set. -/
  le : ∀ n, P n → a ≤ f n
  /-- With no value below `⊤` the index is the default. -/
  top : a = ⊤ → i = d
  /-- A value below `⊤` is reached at the index, which is of the set. -/
  mem : a ≠ ⊤ → P i ∧ f i = a
  /-- No earlier number of the set reaches it. -/
  first : a ≠ ⊤ → ∀ n, P n → f n = a → i ≤ n

namespace Best

variable {f : ℕ → EReal} {P Q R : ℕ → Prop} {d i j : ℕ} {a b : EReal}

/-- Over the empty set the value is `⊤` and the index the default. -/
theorem empty (hP : ∀ n, ¬ P n) : Best f P d ⊤ d :=
  ⟨fun n h => (hP n h).elim, fun _ => rfl, fun h => (h rfl).elim, fun h => (h rfl).elim⟩

/-- The set may be replaced by one with the same numbers. -/
theorem congr (h : Best f P d a i) (hPQ : ∀ n, Q n ↔ P n) : Best f Q d a i :=
  ⟨fun n hn => h.le n ((hPQ n).1 hn), h.top, fun ha => ⟨(hPQ i).2 (h.mem ha).1, (h.mem ha).2⟩,
    fun ha n hn => h.first ha n ((hPQ n).1 hn)⟩

/-- A new number whose value lies strictly below takes the place. -/
theorem replace (h : Best f P d a i) (hj : f j < a) (hQ : ∀ n, Q n ↔ P n ∨ n = j) : Best f Q d (f j) j where
  le n hn := by
    rcases (hQ n).1 hn with hn | rfl
    · exact hj.le.trans (h.le n hn)
    · exact le_rfl
  top ht := absurd (ht ▸ hj) not_top_lt
  mem _ := ⟨(hQ j).2 (.inr rfl), rfl⟩
  first _ n hn hf := by
    rcases (hQ n).1 hn with hn | rfl
    · exact absurd (h.le n hn) (not_le.2 (hf ▸ hj))
    · exact le_rfl

/-- A new number whose value does not lie strictly below changes nothing, if it comes after the index. -/
theorem keep (h : Best f P d a i) (hj : ¬ f j < a) (hij : a ≠ ⊤ → i ≤ j) (hQ : ∀ n, Q n ↔ P n ∨ n = j) : Best f Q d a i where
  le n hn := by
    rcases (hQ n).1 hn with hn | rfl
    · exact h.le n hn
    · exact not_lt.1 hj
  top := h.top
  mem ha := ⟨(hQ i).2 (.inl (h.mem ha).1), (h.mem ha).2⟩
  first ha n hn hf := by
    rcases (hQ n).1 hn with hn | rfl
    · exact h.first ha n hn hf
    · exact hij ha

/-- A new number whose value is `⊤` changes nothing. -/
theorem skip (h : Best f P d a i) (hj : f j = ⊤) (hQ : ∀ n, Q n ↔ P n ∨ n = j) : Best f Q d a i where
  le n hn := by
    rcases (hQ n).1 hn with hn | rfl
    · exact h.le n hn
    · exact hj ▸ le_top
  top := h.top
  mem ha := ⟨(hQ i).2 (.inl (h.mem ha).1), (h.mem ha).2⟩
  first ha n hn hf := by
    rcases (hQ n).1 hn with hn | rfl
    · exact h.first ha n hn hf
    · exact absurd (hf.symm.trans hj) ha

/-- Over one number whose value lies below `⊤`. -/
theorem single (hj : f j ≠ ⊤) : Best f (· = j) d (f j) j :=
  ⟨fun n hn => hn ▸ le_rfl, fun h => absurd h hj, fun _ => ⟨rfl, rfl⟩, fun _ n hn _ => hn ▸ le_rfl⟩

/-- Joining two sets, the first pair stays if its value is less, or equal with a lesser index. -/
theorem union_left (hP : Best f P d a i) (hQ : Best f Q d b j) (hk : a < b ∨ a = b ∧ i < j) (hR : ∀ n, R n ↔ P n ∨ Q n) :
    Best f R d a i where
  le n hn := by
    rcases (hR n).1 hn with hn | hn
    · exact hP.le n hn
    · exact (hk.elim le_of_lt fun h => h.1.le).trans (hQ.le n hn)
  top := hP.top
  mem ha := ⟨(hR i).2 (.inl (hP.mem ha).1), (hP.mem ha).2⟩
  first ha n hn hf := by
    rcases (hR n).1 hn with hn | hn
    · exact hP.first ha n hn hf
    · rcases hk with hk | ⟨rfl, hk⟩
      · exact absurd (hQ.le n hn) (not_le.2 (hf ▸ hk))
      · exact hk.le.trans (hQ.first ha n hn hf)

/-- Joining two sets, the second pair is taken otherwise. -/
theorem union_right (hP : Best f P d a i) (hQ : Best f Q d b j) (hk : ¬ (a < b ∨ a = b ∧ i < j)) (hR : ∀ n, R n ↔ P n ∨ Q n) :
    Best f R d b j where
  le n hn := by
    rcases (hR n).1 hn with hn | hn
    · exact (not_lt.1 fun h => hk (.inl h)).trans (hP.le n hn)
    · exact hQ.le n hn
  top := hQ.top
  mem ha := ⟨(hR j).2 (.inr (hQ.mem ha).1), (hQ.mem ha).2⟩
  first ha n hn hf := by
    rcases (hR n).1 hn with hn | hn
    · have hab : a = b := le_antisymm (hf ▸ hP.le n hn) (not_lt.1 fun h => hk (.inl h))
      subst hab
      exact (not_lt.1 fun h => hk (.inr ⟨rfl, h⟩)).trans (hP.first ha n hn hf)
    · exact hQ.first ha n hn hf

/-- A family of sets read at once: the least of the values, and the least of the indices at which it is reached, are those of the
    sets' union, if one of the sets has the default zero. -/
theorem family {ι : Type*} {P : ι → ℕ → Prop} {D : ι → ℕ} {A : ι → EReal} {I : ι → ℕ} (h : ∀ r, Best f (P r) (D r) (A r) (I r))
    {r₀ : ι} (h₀ : D r₀ = 0) (hle : ∀ r, a ≤ A r) (hi : ∀ r, A r = a → i ≤ I r) (hex : ∃ r, A r = a ∧ i = I r)
    (hR : ∀ n, R n ↔ ∃ r, P r n) : Best f R 0 a i where
  le n hn := by
    obtain ⟨r, hr⟩ := (hR n).1 hn
    exact (hle r).trans ((h r).le n hr)
  top ht := by
    have hA : A r₀ = ⊤ := top_le_iff.1 (ht ▸ hle r₀)
    have := hi r₀ (hA.trans ht.symm)
    rw [(h r₀).top hA, h₀] at this
    exact Nat.le_zero.1 this
  mem ha := by
    obtain ⟨r, hr, rfl⟩ := hex
    have := (h r).mem (hr ▸ ha)
    exact ⟨(hR _).2 ⟨r, this.1⟩, this.2.trans hr⟩
  first ha n hn hf := by
    obtain ⟨r, hr⟩ := (hR n).1 hn
    have hA : A r = a := le_antisymm (hf ▸ (h r).le n hr) (hle r)
    exact (hi r hA).trans ((h r).first (hA ▸ ha) n hr (hf.trans hA.symm))

/-- The index lies below any bound of the set and of the default. -/
theorem index_lt {N : ℕ} (h : Best f P d a i) (hP : ∀ n, P n → n < N) (hd : d < N) : i < N := by
  by_cases ha : a = ⊤
  · rw [h.top ha]
    exact hd
  · exact hP i (h.mem ha).1

/-- The index is determined. -/
theorem index_unique (h : Best f P d a i) (h' : Best f P d b j) : i = j := by
  by_cases ha : a = ⊤
  · by_cases hb : b = ⊤
    · rw [h.top ha, h'.top hb]
    · have hj := h'.mem hb
      exact absurd (top_le_iff.1 (hj.2 ▸ ha ▸ h.le j hj.1)) hb
  · have hi := h.mem ha
    by_cases hb : b = ⊤
    · exact absurd (top_le_iff.1 (hi.2 ▸ hb ▸ h'.le i hi.1)) ha
    · have hj := h'.mem hb
      have hab : a = b := le_antisymm (hj.2 ▸ h.le j hj.1) (hi.2 ▸ h'.le i hi.1)
      exact le_antisymm (h.first ha j hj.1 (hj.2.trans hab.symm)) (h'.first hb i hi.1 (hi.2.trans hab))

end Best

/-- A function of the 8192 code numbers at every natural number, `⊤` past the last. -/
def onCodes (g : Fin 8192 → EReal) (n : ℕ) : EReal := if h : n < 8192 then g ⟨n, h⟩ else ⊤

end Cert.Hand

end
-- ==== Proof.Chunk.lean ====
/-
  The vectors the body computes, named once for every chunk and every group of codes, and each read at an index: a chunk's scores,
  its mask, the update of the running least, the least down a column and the first row that reaches it, and the merge of two groups.
-/
module

public import proofs.«01_k».proof.Proof.Gen.KernelIdeal.Skeleton
public import Idealize.ShloMosaic.Lib.Pointwise

@[expose] public section

set_option maxRecDepth 16384

noncomputable section

namespace Cert.KernelIdeal.Hand

open Idealize.ShloMosaic
open Cert.KernelIdeal Cert.KernelIdeal.Gen

/-- A choice on the conjunction of two truth values. -/
theorem select_and {α : Type} (b c : Bool) (x y : α) :
    Scalar.select (IntOp.andi (BitVec.ofBool b) (BitVec.ofBool c)) x y = if b = true ∧ c = true then x else y := by
  cases b <;> cases c <;> rfl

/-- A choice on one truth value or the conjunction of two more. -/
theorem select_or_and {α : Type} (a b c : Bool) (x y : α) :
    Scalar.select (IntOp.ori (BitVec.ofBool a) (IntOp.andi (BitVec.ofBool b) (BitVec.ofBool c))) x y
      = if a = true ∨ b = true ∧ c = true then x else y := by
  cases a <;> cases b <;> cases c <;> rfl

/-- A chunk's scores: for each of its codes and each token of the block, the two squared norms less twice the inner product. -/
def score (h : Vec Ideal S1x256x1024 .bf16) (q : Vec Ideal S1x1x1024 .f32) (e : Vec Ideal S512x256 .bf16)
    (n : Vec Ideal S512x1 .f32) : FVec Ideal S512x1024 .f32 :=
  subf
    (addf (broadcastTo S512x1024 (k0_pay3 q) broadcasts_S1x1024_S512x1024)
      (broadcastTo S512x1024 (shapeCast S512x1 n shapeCasts_S512x1_S512x1) broadcasts_S512x1_S512x1024))
    (mulf (broadcast S512x1024 (Scalar.ofBits (F := Ideal) .f32 0x40000000#32))
      (matmul (φ₁ := .bf16) dot_S512x256_S256x1024_S512x1024_1_0_0_1_n_n none (shapeCast S512x256 e shapeCasts_S512x256_S512x256)
        (k0_pay2 h) (constant S512x1024 .f32 0x00000000#32)))

/-- A chunk's score at a code and a token. -/
theorem score_apply (h : Vec Ideal S1x256x1024 .bf16) (q : Vec Ideal S1x1x1024 .f32) (e : Vec Ideal S512x256 .bf16)
    (n : Vec Ideal S512x1 .f32) (r : Fin 512) (t : Fin 1024) :
    score h q e n (ix2 r t)
      = (q (ix3 0 0 t) + n (ix2 r 0))
        - Ideal.ofBits .f32 0x40000000#32 * ∑ k : Fin 256, (e (ix2 r k) * h (ix3 0 k t) : EReal) := by
  pointwise [score, k0_pay3, k0_pay2]

/-- The rows' numbers. -/
abbrev rows : IVec S512x1024 32 := iota .tc S512x1024 32 [0] iota_S512x1024_d0_w32

/-- The scores where the row's number lies between two bounds, and `⊤` elsewhere. -/
def masked (lo hi : BitVec 32) (s : FVec Ideal S512x1024 .f32) : FVec Ideal S512x1024 .f32 :=
  select (andi (cmpi .sge rows (broadcast S512x1024 lo)) (cmpi .slt rows (broadcast S512x1024 hi))) s
    (broadcast S512x1024 (Scalar.ofBits (F := Ideal) .f32 0x7F800000#32))

/-- Where the new scores lie strictly below the running least. -/
def below (s a : FVec Ideal S512x1024 .f32) : IVec S512x1024 1 := cmpf .olt s a

/-- The running least after a chunk. -/
def least (s a : FVec Ideal S512x1024 .f32) : FVec Ideal S512x1024 .f32 := select (below s a) s a

/-- The chunk that holds the running least, after chunk `c`. -/
def chunkOf (c : BitVec 32) (s a : FVec Ideal S512x1024 .f32) (k : IVec S512x1024 32) : IVec S512x1024 32 :=
  select (below s a) (broadcast S512x1024 c) k

/-- A group's least score for each token. -/
def colMin (a : FVec Ideal S512x1024 .f32) : FVec Ideal S1x1024 .f32 :=
  shapeCast S1x1024 (multiReduction .minimumf [0] S1024 a 0x7F800000#32 reduces_S512x1024_S1024 (.inl rfl) rfl) shapeCasts_S1024_S1x1024

/-- A group's code numbers where the least is reached, and a number past them all elsewhere. -/
def cand (a : FVec Ideal S512x1024 .f32) (k : IVec S512x1024 32) : IVec S512x1024 32 :=
  select (cmpf .oeq a (broadcastTo S512x1024 (colMin a) broadcasts_S1x1024_S512x1024))
    (addi (muli k (broadcast S512x1024 512#32)) rows) (broadcast S512x1024 8192#32)

/-- A group's first code number that reaches the least, for each token. -/
def colArg (a : FVec Ideal S512x1024 .f32) (k : IVec S512x1024 32) : IVec S1x1024 32 :=
  shapeCast S1x1024 (multiReductionI .minsi [0] S1024 (cand a k) 2147483647#32 reduces_S512x1024_S1024 rfl) shapeCasts_S1024_S1x1024

/-- The running least over groups after its trip through the narrow format. -/
def narrowed (v : FVec Ideal S1x1024 .f32) : FVec Ideal S1x1024 .f32 := extf .f32 (truncf .bf16 v bitsLt_bf16_f32) bitsLt_bf16_f32

/-- Where the running pair stays when the next group is merged. -/
def stays (v w : FVec Ideal S1x1024 .f32) (i j : IVec S1x1024 32) : IVec S1x1024 1 :=
  ori (cmpf .olt (narrowed v) w) (andi (cmpf .oeq (narrowed v) w) (cmpi .slt i j))

/-- The running least after merging a group. -/
def mergeV (v w : FVec Ideal S1x1024 .f32) (i j : IVec S1x1024 32) : FVec Ideal S1x1024 .f32 := select (stays v w i j) (narrowed v) w

/-- The running code number after merging a group. -/
def mergeI (v w : FVec Ideal S1x1024 .f32) (i j : IVec S1x1024 32) : IVec S1x1024 32 := select (stays v w i j) i j

/-- The running least at a code and a token: the lesser of the two. -/
theorem least_apply (s a : FVec Ideal S512x1024 .f32) (j : S512x1024.Idx) :
    least s a j = if s j < a j then s j else a j := by
  pointwise [least, below]

/-- The chunk that holds it. -/
theorem chunkOf_apply (c : BitVec 32) (s a : FVec Ideal S512x1024 .f32) (k : IVec S512x1024 32) (j : S512x1024.Idx) :
    chunkOf c s a k j = if s j < a j then c else k j := by
  pointwise [chunkOf, below]

/-- The masked scores at a code and a token. -/
theorem masked_apply (lo hi : BitVec 32) (s : FVec Ideal S512x1024 .f32) (r : Fin 512) (t : Fin 1024) :
    masked lo hi s (ix2 r t)
      = if lo.sle (BitVec.ofNat 32 r.val) ∧ (BitVec.ofNat 32 r.val).slt hi then s (ix2 r t) else Ideal.ofBits .f32 0x7F800000#32 := by
  pointwise [masked]
  exact select_and _ _ _ _

/-- A group's least score at a token. -/
theorem colMin_apply (a : FVec Ideal S512x1024 .f32) (t : Fin 1024) :
    colMin a (ix2 0 t) = Finset.univ.fold min (Ideal.ofBits .f32 0x7F800000#32) fun r : Fin 512 => (a (ix2 r t) : EReal) := by
  pointwise [colMin]

/-- A group's code numbers at a row and a token. -/
theorem cand_apply (a : FVec Ideal S512x1024 .f32) (k : IVec S512x1024 32) (r : Fin 512) (t : Fin 1024) :
    cand a k (ix2 r t)
      = if (a (ix2 r t) : EReal) = colMin a (ix2 0 t) then IntOp.addi (IntOp.muli (k (ix2 r t)) 512#32) (BitVec.ofNat 32 r.val)
        else 8192#32 := by
  pointwise [cand]

/-- A group's first code number that reaches the least, at a token. -/
theorem colArg_apply (a : FVec Ideal S512x1024 .f32) (k : IVec S512x1024 32) (t : Fin 1024) :
    colArg a k (ix2 0 t) = Finset.univ.fold IntOp.minsi 2147483647#32 fun r : Fin 512 => cand a k (ix2 r t) := by
  pointwise [colArg]

/-- Where the running pair stays, at a token. -/
theorem mergeV_apply (v w : FVec Ideal S1x1024 .f32) (i j : IVec S1x1024 32) (t : Fin 1024) :
    mergeV v w i j (ix2 0 t)
      = if v (ix2 0 t) < w (ix2 0 t) ∨ v (ix2 0 t) = w (ix2 0 t) ∧ (i (ix2 0 t)).slt (j (ix2 0 t)) then v (ix2 0 t)
        else w (ix2 0 t) := by
  pointwise [mergeV, stays, narrowed]
  exact (select_or_and _ _ _ _ _).trans (by simp only [decide_eq_true_eq])

/-- The code number after a merge, at a token. -/
theorem mergeI_apply (v w : FVec Ideal S1x1024 .f32) (i j : IVec S1x1024 32) (t : Fin 1024) :
    mergeI v w i j (ix2 0 t)
      = if v (ix2 0 t) < w (ix2 0 t) ∨ v (ix2 0 t) = w (ix2 0 t) ∧ (i (ix2 0 t)).slt (j (ix2 0 t)) then i (ix2 0 t)
        else j (ix2 0 t) := by
  pointwise [mergeI, stays, narrowed]
  exact (select_or_and _ _ _ _ _).trans (by simp only [decide_eq_true_eq])

end Cert.KernelIdeal.Hand

end
-- ==== Proof.Rows.lean ====
/-
  What the body's vectors hold while the chunks go by: at each row the least score over the codes seen on that row and the chunk of
  the first code that reaches it; then a group's least and first code over all rows; then the merge of two groups.
-/
module

public import proofs.«01_k».proof.Proof.Best
public import proofs.«01_k».proof.Proof.Chunk

@[expose] public section

noncomputable section

namespace Cert.KernelIdeal.Hand

open Idealize.ShloMosaic Cert.Hand
open Cert.KernelIdeal Cert.KernelIdeal.Gen

/-- An f32 with the bits of the positive infinity is `⊤`. -/
theorem ofBits_inf : Ideal.ofBits .f32 0x7F800000#32 = ⊤ := by
  simp [Ideal.ofBits, Ideal.ieee]

variable {f : Fin 1024 → ℕ → EReal}

/-- At each row and token, the least of `f` over the codes from `lo` to `hi` on that row, with the first such code's chunk. -/
def Acc (f : Fin 1024 → ℕ → EReal) (lo hi : ℕ) (a : FVec Ideal S512x1024 .f32) (k : IVec S512x1024 32) : Prop :=
  ∀ (r : Fin 512) (t : Fin 1024),
    Best (f t) (fun n => lo ≤ n ∧ n < hi ∧ n % 512 = r) r (a (ix2 r t)) ((k (ix2 r t)).toNat * 512 + r)

/-- `s` holds chunk `c`'s scores. -/
def IsChunk (f : Fin 1024 → ℕ → EReal) (c : ℕ) (s : FVec Ideal S512x1024 .f32) : Prop :=
  ∀ (r : Fin 512) (t : Fin 1024), s (ix2 r t) = f t (512 * c + r)

/-- Before the first chunk of a group. -/
theorem Acc.init (lo : ℕ) : Acc f lo lo k0_pay4 k0_pay5 := fun r t => by
  have h : Best (f t) (fun n => lo ≤ n ∧ n < lo ∧ n % 512 = r) r ⊤ r := Best.empty fun n hn => by omega
  have ha : (k0_pay4 (F := Ideal)) (ix2 r t) = ⊤ := ofBits_inf
  have hk : (k0_pay5 (ix2 r t)).toNat * 512 + (r : ℕ) = r := by
    show (0#32).toNat * 512 + (r : ℕ) = r
    simp
  rw [ha, hk]
  exact h

/-- One chunk's update, whichever of its codes count: those from `lo` to `hi'` carry their scores and the others `⊤`. -/
theorem Acc.step {lo hi : ℕ} (hi' c : ℕ) {s a : FVec Ideal S512x1024 .f32} {k : IVec S512x1024 32} (h : Acc f lo hi a k) (hc : c < 16)
    (hs : ∀ (r : Fin 512) (t : Fin 1024),
      s (ix2 r t) = if lo ≤ 512 * c + r ∧ 512 * c + r < hi' then f t (512 * c + r) else ⊤)
    (hhi : hi = max lo (512 * c)) (h₁ : hi ≤ hi') (h₂ : hi' ≤ 512 * c + 512) :
    Acc f lo hi' (least s a) (chunkOf (BitVec.ofNat 32 c) s a k) := fun r t => by
  have hr := r.isLt
  have hcn : (BitVec.ofNat 32 c).toNat = c := by simp; omega
  rw [least_apply, chunkOf_apply, hs]
  by_cases hl : lo ≤ 512 * c + r ∧ 512 * c + r < hi'
  · rw [if_pos hl]
    have hQ : ∀ n, (lo ≤ n ∧ n < hi' ∧ n % 512 = r) ↔ (lo ≤ n ∧ n < hi ∧ n % 512 = r) ∨ n = 512 * c + r := fun n => by omega
    by_cases hlt : f t (512 * c + r) < a (ix2 r t)
    · rw [if_pos hlt, if_pos hlt, hcn, mul_comm c]
      exact (h r t).replace hlt hQ
    · rw [if_neg hlt, if_neg hlt]
      refine (h r t).keep hlt (fun ha => ?_) hQ
      have := ((h r t).mem ha).1
      omega
  · rw [if_neg hl, if_neg not_top_lt, if_neg not_top_lt]
    exact (h r t).congr fun n => by omega

/-- A chunk all of whose codes count. -/
theorem Acc.whole {lo : ℕ} (c : ℕ) {s a : FVec Ideal S512x1024 .f32} {k : IVec S512x1024 32} (h : Acc f lo (512 * c) a k)
    (hs : IsChunk f c s) (hc : c < 16) (hlo : lo ≤ 512 * c) :
    Acc f lo (512 * (c + 1)) (least s a) (chunkOf (BitVec.ofNat 32 c) s a k) :=
  h.step (512 * (c + 1)) c hc (fun r t => by rw [hs, if_pos]; have := r.isLt; omega) (by omega) (by omega) (by omega)

/-- A chunk of which the rows from `l` to `u` count. -/
theorem Acc.part {lo hi : ℕ} (c l u : ℕ) {s a : FVec Ideal S512x1024 .f32} {k : IVec S512x1024 32} (h : Acc f lo hi a k)
    (hs : IsChunk f c s) (hc : c < 16) (hl : l = lo - 512 * c) (hhi : hi = max lo (512 * c)) (hlu : l ≤ u) (hu : u ≤ 512) :
    Acc f lo (512 * c + u) (least (masked (BitVec.ofNat 32 l) (BitVec.ofNat 32 u) s) a)
      (chunkOf (BitVec.ofNat 32 c) (masked (BitVec.ofNat 32 l) (BitVec.ofNat 32 u) s) a k) := by
  refine h.step (512 * c + u) c hc (fun r t => ?_) hhi (by omega) (by omega)
  have hr := r.isLt
  have hw : ∀ n, n ≤ 512 → (BitVec.ofNat 32 n).toInt = n := fun n hn => by
    rw [BitVec.toInt_eq_toNat_of_lt (by simp; omega)]; simp; omega
  rw [masked_apply, hs, ofBits_inf, BitVec.sle_eq_decide, BitVec.slt_eq_decide, hw l (by omega), hw u hu, hw r (by omega)]
  refine if_congr ?_ rfl rfl
  simp only [decide_eq_true_eq]
  omega

/-- The signed minimum of two words is the minimum of their values. -/
theorem toInt_minsi (x y : BitVec 32) : (IntOp.minsi x y).toInt = min x.toInt y.toInt := by
  unfold IntOp.minsi
  rw [BitVec.slt_eq_decide]
  split <;> simp_all <;> omega

/-- A group's least and first code over all rows, at a token. -/
theorem Acc.group {lo hi : ℕ} {a : FVec Ideal S512x1024 .f32} {k : IVec S512x1024 32} (h : Acc f lo hi a k) (hhi : hi ≤ 8192)
    (t : Fin 1024) : Best (f t) (fun n => lo ≤ n ∧ n < hi) 0 (colMin a (ix2 0 t)) (colArg a k (ix2 0 t)).toNat := by
  -- the least is below every row's, and some row reaches it
  have hm := colMin_apply a t
  rw [ofBits_inf] at hm
  have hle : ∀ r : Fin 512, (colMin a (ix2 0 t) : EReal) ≤ a (ix2 r t) := fun r => by
    rw [hm]; exact Finset.fold_min_le _ |>.2 (.inr ⟨r, Finset.mem_univ _, le_rfl⟩)
  have hat : ∃ r : Fin 512, (a (ix2 r t) : EReal) = colMin a (ix2 0 t) := by
    rcases (Finset.fold_min_le _).1 hm.ge with ht | ⟨r, -, hr⟩
    · exact ⟨0, le_antisymm (le_top.trans ht) (hle 0)⟩
    · exact ⟨r, le_antisymm hr (hle r)⟩
  -- a row's code number, as a word
  have hb : ∀ r : Fin 512, (k (ix2 r t)).toNat * 512 + r < 8192 := fun r => by
    by_cases ha : a (ix2 r t) = ⊤
    · have := (h r t).top ha; have := r.isLt; omega
    · have := ((h r t).mem ha).1; omega
  have hw : ∀ r : Fin 512, (IntOp.addi (IntOp.muli (k (ix2 r t)) 512#32) (BitVec.ofNat 32 r.val)).toNat
      = (k (ix2 r t)).toNat * 512 + r := fun r => by
    have := hb r
    show (k (ix2 r t) * 512#32 + BitVec.ofNat 32 r.val).toNat = _
    rw [BitVec.toNat_add, BitVec.toNat_mul, BitVec.toNat_ofNat, BitVec.toNat_ofNat]
    omega
  have hc : ∀ r : Fin 512, (cand a k (ix2 r t)).toNat
      = if (a (ix2 r t) : EReal) = colMin a (ix2 0 t) then (k (ix2 r t)).toNat * 512 + r else 8192 := fun r => by
    rw [cand_apply]
    split
    · exact hw r
    · rfl
  have hi : ∀ r : Fin 512, (cand a k (ix2 r t)).toInt = (cand a k (ix2 r t)).toNat := fun r => by
    refine BitVec.toInt_eq_toNat_of_lt ?_
    have := hb r
    rw [hc]
    split <;> omega
  -- the fold of the signed minimum: below every candidate, and one of them
  have hf : (colArg a k (ix2 0 t)).toInt
      = Finset.univ.fold min 2147483647 fun r : Fin 512 => (cand a k (ix2 r t)).toInt := by
    rw [colArg_apply]
    exact (Finset.fold_hom (m := BitVec.toInt) toInt_minsi).symm
  have hfle : ∀ r : Fin 512, (colArg a k (ix2 0 t)).toInt ≤ (cand a k (ix2 r t)).toInt := fun r => by
    rw [hf]; exact (Finset.fold_min_le _).2 (.inr ⟨r, Finset.mem_univ _, le_rfl⟩)
  have hcb : ∀ r : Fin 512, (cand a k (ix2 r t)).toNat ≤ 8192 := fun r => by
    have := hb r
    rw [hc]
    split <;> omega
  obtain ⟨r₁, hr₁⟩ : ∃ r : Fin 512, colArg a k (ix2 0 t) = cand a k (ix2 r t) := by
    rcases (Finset.fold_min_le _).1 hf.ge with ht | ⟨r, -, hr⟩
    · have h0 := hfle 0
      rw [hi] at h0
      have := hcb 0
      omega
    · exact ⟨r, BitVec.eq_of_toInt_eq (le_antisymm (hfle r) hr)⟩
  have hn : ∀ r : Fin 512, (colArg a k (ix2 0 t)).toNat ≤ (cand a k (ix2 r t)).toNat := fun r => by
    have := hfle r
    rw [hr₁, hi, hi] at this
    rw [hr₁]
    omega
  refine Best.family (fun r => h r t) (r₀ := 0) rfl hle (fun r hr => ?_) ⟨r₁, ?_⟩ (fun n => ?_)
  · have := hn r
    rwa [hc, if_pos hr] at this
  · obtain ⟨r, hr⟩ := hat
    have h2 := hn r
    rw [hc, if_pos hr, hr₁, hc] at h2
    have := hb r
    by_cases h1 : (a (ix2 r₁ t) : EReal) = colMin a (ix2 0 t)
    · refine ⟨h1, ?_⟩
      rw [hr₁, hc, if_pos h1]
    · rw [if_neg h1] at h2
      omega
  · constructor
    · intro hn
      exact ⟨⟨n % 512, Nat.mod_lt _ (by norm_num)⟩, hn.1, hn.2, rfl⟩
    · rintro ⟨r, h1, h2, -⟩
      exact ⟨h1, h2⟩

/-- The merge of two groups, at a token. -/
theorem merge_best {g : ℕ → EReal} {P Q R : ℕ → Prop} {v w : FVec Ideal S1x1024 .f32} {i j : IVec S1x1024 32} {t : Fin 1024}
    (hP : Best g P 0 (v (ix2 0 t)) (i (ix2 0 t)).toNat) (hQ : Best g Q 0 (w (ix2 0 t)) (j (ix2 0 t)).toNat)
    (hP8 : ∀ n, P n → n < 8192) (hQ8 : ∀ n, Q n → n < 8192) (hR : ∀ n, R n ↔ P n ∨ Q n) :
    Best g R 0 (mergeV v w i j (ix2 0 t)) (mergeI v w i j (ix2 0 t)).toNat := by
  have hi := hP.index_lt hP8 (by norm_num)
  have hj := hQ.index_lt hQ8 (by norm_num)
  have hs : (i (ix2 0 t)).slt (j (ix2 0 t)) = true ↔ (i (ix2 0 t)).toNat < (j (ix2 0 t)).toNat := by
    rw [BitVec.slt_eq_decide, BitVec.toInt_eq_toNat_of_lt (by omega), BitVec.toInt_eq_toNat_of_lt (by omega), decide_eq_true_eq]
    omega
  rw [mergeV_apply, mergeI_apply]
  split
  · next hk => exact hP.union_left hQ (by rwa [← hs]) hR
  · next hk => exact hP.union_right hQ (by rwa [← hs]) hR

end Cert.KernelIdeal.Hand

end
-- ==== Proof.Body.lean ====
/-
  What one trip of the kernel's body leaves in its output block: at every token, the first code whose score is least. The block's value
  as printed is first written with the named vectors, then read through the invariant of the running least.
-/
module

public import proofs.«01_k».proof.Proof.Gen.KernelIdeal.Frame
public import proofs.«01_k».proof.Proof.Rows

@[expose] public section

set_option maxRecDepth 16384

noncomputable section

namespace Cert.KernelIdeal.Hand

open Idealize.ShloMosaic Cert.Hand
open Cert.KernelIdeal Cert.KernelIdeal.Gen

/-- The body's four inputs: the slab of tokens, the codes, the tokens' squared norms and the codes' squared norms. -/
structure Inputs where
  /-- The slab of tokens, one column each. -/
  h : Vec Ideal S1x256x1024 .bf16
  /-- The codes, one row each. -/
  e : Vec Ideal S8192x256 .bf16
  /-- The tokens' squared norms. -/
  q : Vec Ideal S1x1x1024 .f32
  /-- The codes' squared norms. -/
  n : Vec Ideal S8192x1 .f32

variable (X : Inputs)

/-- The score of code `c` at token `t`. -/
def codeScore (t : Fin 1024) (c : Fin 8192) : EReal :=
  (X.q (ix3 0 0 t) + X.n (ix2 c 0))
    - Ideal.ofBits .f32 0x40000000#32 * ∑ k : Fin 256, (X.e (ix2 c k) * X.h (ix3 0 k t) : EReal)

/-- The rows of one chunk lie within the codes. -/
theorem inb_codes {c : ℕ} (hc : c < 16) : ∀ a, (![512 * c, 0] : Fin 2 → ℕ) a + S512x256.size a ≤ S8192x256.size a := fun a => by
  match a with
  | ⟨0, _⟩ => show 512 * c + 512 ≤ 8192; omega
  | ⟨1, _⟩ => show 0 + 256 ≤ 256; omega

/-- The rows of one chunk lie within the codes' squared norms. -/
theorem inb_norms {c : ℕ} (hc : c < 16) : ∀ a, (![512 * c, 0] : Fin 2 → ℕ) a + S512x1.size a ≤ S8192x1.size a := fun a => by
  match a with
  | ⟨0, _⟩ => show 512 * c + 512 ≤ 8192; omega
  | ⟨1, _⟩ => show 0 + 1 ≤ 1; omega

/-- The scores of chunk `c`, from the rows the body loads for it. -/
def chunk (c : ℕ) (hc : c < 16) : FVec Ideal S512x1024 .f32 :=
  score (View.ld (Val := Elt Ideal) X.h r0_0) (View.ld (Val := Elt Ideal) X.q r0_1)
    (View.ld (Val := Elt Ideal) X.e (Rect.unit (s := S8192x256) ![512 * c, 0] S512x256.size (inb_codes hc)))
    (View.ld (Val := Elt Ideal) X.n (Rect.unit (s := S8192x1) ![512 * c, 0] S512x1.size (inb_norms hc)))

/-- Chunk `c` holds the scores of the codes from `512 * c`. -/
theorem chunk_isChunk (c : ℕ) (hc : c < 16) : IsChunk (fun t => onCodes (codeScore X t)) c (chunk X c hc) := fun r t => by
  have hr : 512 * c + r.val < 8192 := by have := r.isLt; omega
  unfold chunk
  rw [score_apply]
  show _ = onCodes (codeScore X t) (512 * c + r.val)
  unfold onCodes
  rw [dif_pos hr]
  pointwise [codeScore]

/-- The running least of a group, with the chunks that hold it. -/
abbrev State : Type := FVec Ideal S512x1024 .f32 × IVec S512x1024 32

/-- A group's state before its first chunk. -/
def start : State := (k0_pay4, k0_pay5)

/-- A group's state after chunk `c`'s scores. -/
def step (c : ℕ) (s : FVec Ideal S512x1024 .f32) (p : State) : State :=
  (least s p.1, chunkOf (BitVec.ofNat 32 c) s p.1 p.2)

/-- The first group: five chunks and the head of the sixth. -/
def group0 : State :=
  step 5 (masked 0#32 176#32 (chunk X 5 (by decide))) <| step 4 (chunk X 4 (by decide)) <| step 3 (chunk X 3 (by decide)) <|
    step 2 (chunk X 2 (by decide)) <| step 1 (chunk X 1 (by decide)) <| step 0 (chunk X 0 (by decide)) start

/-- The second group: the tail of the sixth chunk, four more and the head of the eleventh. -/
def group1 : State :=
  step 10 (masked 0#32 352#32 (chunk X 10 (by decide))) <| step 9 (chunk X 9 (by decide)) <| step 8 (chunk X 8 (by decide)) <|
    step 7 (chunk X 7 (by decide)) <| step 6 (chunk X 6 (by decide)) <| step 5 (masked 176#32 512#32 (chunk X 5 (by decide))) start

/-- The third group: the tail of the eleventh chunk and the last five. -/
def group2 : State :=
  step 15 (chunk X 15 (by decide)) <| step 14 (chunk X 14 (by decide)) <| step 13 (chunk X 13 (by decide)) <|
    step 12 (chunk X 12 (by decide)) <| step 11 (chunk X 11 (by decide)) <| step 10 (masked 352#32 512#32 (chunk X 10 (by decide))) start

/-- The code numbers the three groups merge to. -/
def merged (p₀ p₁ p₂ : State) : IVec S1x1024 32 :=
  mergeI (mergeV (colMin p₀.1) (colMin p₁.1) (colArg p₀.1 p₀.2) (colArg p₁.1 p₁.2)) (colMin p₂.1)
    (mergeI (colMin p₀.1) (colMin p₁.1) (colArg p₀.1 p₀.2) (colArg p₁.1 p₁.2)) (colArg p₂.1 p₂.2)

/-- The body's last vector is the merge of its three groups. -/
theorem pay77_eq (p₀ p₁ p₂ : State) :
    k0_pay77 rows p₀.1 p₀.2 p₁.1 p₁.2 p₂.1 p₂.2 (k0_pay76 p₀.1) = merged p₀ p₁ p₂ := rfl

/-- The first two chunks. -/
theorem chunks01 :
    k0_pay83 X.h X.e X.q X.n
        = (step 1 (chunk X 1 (by decide)) (step 0 (chunk X 0 (by decide)) start)).1
      ∧ k0_pay12 (View.ld X.h r0_0) (View.ld X.q r0_1) (View.ld X.e r0_2) (View.ld X.n r0_3) (View.ld X.e r0_4) (View.ld X.n r0_5)
        = (step 1 (chunk X 1 (by decide)) (step 0 (chunk X 0 (by decide)) start)).2 :=
  ⟨rfl, rfl⟩

/-- The next two. -/
theorem chunks23 (p : State) :
    k0_pay18 (k0_pay79 X.h X.e X.q X.n) (k0_pay80 X.h X.e X.q X.n) p.1 (View.ld X.e r0_6) (View.ld X.n r0_7) (View.ld X.e r0_8) (View.ld X.n r0_9)
        = (step 3 (chunk X 3 (by decide)) (step 2 (chunk X 2 (by decide)) p)).1
      ∧ k0_pay19 (k0_pay79 X.h X.e X.q X.n) (k0_pay80 X.h X.e X.q X.n) p.1 p.2 (View.ld X.e r0_6) (View.ld X.n r0_7) (View.ld X.e r0_8) (View.ld X.n r0_9)
        = (step 3 (chunk X 3 (by decide)) (step 2 (chunk X 2 (by decide)) p)).2 :=
  ⟨rfl, rfl⟩

/-- The fifth and the head of the sixth. -/
theorem chunks45 (p : State) :
    k0_pay28 (k0_pay79 X.h X.e X.q X.n) (k0_pay80 X.h X.e X.q X.n) (k0_pay78 X.h X.e X.q X.n) p.1 (k0_pay85 X.h X.e X.q X.n) (k0_pay86 X.h X.e X.q X.n) (View.ld X.e r0_12) (View.ld X.n r0_13)
        = (step 5 (masked 0#32 176#32 (chunk X 5 (by decide))) (step 4 (chunk X 4 (by decide)) p)).1
      ∧ k0_pay29 (k0_pay79 X.h X.e X.q X.n) (k0_pay80 X.h X.e X.q X.n) (k0_pay78 X.h X.e X.q X.n) p.1 p.2 (k0_pay85 X.h X.e X.q X.n) (k0_pay86 X.h X.e X.q X.n) (View.ld X.e r0_12) (View.ld X.n r0_13)
        = (step 5 (masked 0#32 176#32 (chunk X 5 (by decide))) (step 4 (chunk X 4 (by decide)) p)).2 :=
  ⟨rfl, rfl⟩

/-- The tail of the sixth. -/
theorem chunk5 :
    k0_pay88 X.h X.e X.q X.n
        = (step 5 (masked 176#32 512#32 (chunk X 5 (by decide))) start).1
      ∧ k0_pay33 (k0_pay79 X.h X.e X.q X.n) (k0_pay80 X.h X.e X.q X.n) (k0_pay81 X.h X.e X.q X.n) (k0_pay82 X.h X.e X.q X.n) (k0_pay78 X.h X.e X.q X.n) (View.ld X.e r0_12) (View.ld X.n r0_13)
        = (step 5 (masked 176#32 512#32 (chunk X 5 (by decide))) start).2 :=
  ⟨rfl, rfl⟩

/-- The three chunks after it. -/
theorem chunks678 (p : State) :
    k0_pay43 (k0_pay79 X.h X.e X.q X.n) (k0_pay80 X.h X.e X.q X.n) p.1 (k0_pay89 X.h X.e X.q X.n) (View.ld X.n r0_15) (View.ld X.e r0_16) (View.ld X.n r0_17) (View.ld X.e r0_18) (View.ld X.n r0_19)
        = (step 8 (chunk X 8 (by decide)) (step 7 (chunk X 7 (by decide)) (step 6 (chunk X 6 (by decide)) p))).1
      ∧ k0_pay44 (k0_pay79 X.h X.e X.q X.n) (k0_pay80 X.h X.e X.q X.n) p.1 p.2 (k0_pay89 X.h X.e X.q X.n) (View.ld X.n r0_15) (View.ld X.e r0_16) (View.ld X.n r0_17) (View.ld X.e r0_18) (View.ld X.n r0_19)
        = (step 8 (chunk X 8 (by decide)) (step 7 (chunk X 7 (by decide)) (step 6 (chunk X 6 (by decide)) p))).2 :=
  ⟨rfl, rfl⟩

/-- The tenth and the head of the eleventh. -/
theorem chunks9_10 (p : State) :
    k0_pay51 (k0_pay79 X.h X.e X.q X.n) (k0_pay80 X.h X.e X.q X.n) (k0_pay78 X.h X.e X.q X.n) p.1 (View.ld X.e r0_20) (View.ld X.n r0_21) (View.ld X.e r0_22) (View.ld X.n r0_23)
        = (step 10 (masked 0#32 352#32 (chunk X 10 (by decide))) (step 9 (chunk X 9 (by decide)) p)).1
      ∧ k0_pay52 (k0_pay79 X.h X.e X.q X.n) (k0_pay80 X.h X.e X.q X.n) (k0_pay78 X.h X.e X.q X.n) p.1 p.2 (View.ld X.e r0_20) (View.ld X.n r0_21) (View.ld X.e r0_22) (View.ld X.n r0_23)
        = (step 10 (masked 0#32 352#32 (chunk X 10 (by decide))) (step 9 (chunk X 9 (by decide)) p)).2 :=
  ⟨rfl, rfl⟩

/-- The tail of the eleventh and two more. -/
theorem chunks10_12 :
    k0_pay93 X.h X.e X.q X.n
        = (step 12 (chunk X 12 (by decide)) (step 11 (chunk X 11 (by decide)) (step 10 (masked 352#32 512#32 (chunk X 10 (by decide))) start))).1
      ∧ k0_pay63 (k0_pay79 X.h X.e X.q X.n) (k0_pay80 X.h X.e X.q X.n) (k0_pay81 X.h X.e X.q X.n) (k0_pay82 X.h X.e X.q X.n) (k0_pay91 X.h X.e X.q X.n) (k0_pay92 X.h X.e X.q X.n) (View.ld X.e r0_24) (View.ld X.n r0_25) (View.ld X.e r0_26) (View.ld X.n r0_27)
        = (step 12 (chunk X 12 (by decide)) (step 11 (chunk X 11 (by decide)) (step 10 (masked 352#32 512#32 (chunk X 10 (by decide))) start))).2 :=
  ⟨rfl, rfl⟩

/-- The last three chunks. -/
theorem chunks13_15 (p : State) :
    k0_pay74 (k0_pay79 X.h X.e X.q X.n) (k0_pay80 X.h X.e X.q X.n) p.1 (k0_pay94 X.h X.e X.q X.n) (k0_pay95 X.h X.e X.q X.n) (View.ld X.e r0_30) (View.ld X.n r0_31) (View.ld X.e r0_32) (View.ld X.n r0_33)
        = (step 15 (chunk X 15 (by decide)) (step 14 (chunk X 14 (by decide)) (step 13 (chunk X 13 (by decide)) p))).1
      ∧ k0_pay75 (k0_pay79 X.h X.e X.q X.n) (k0_pay80 X.h X.e X.q X.n) p.1 p.2 (k0_pay94 X.h X.e X.q X.n) (k0_pay95 X.h X.e X.q X.n) (View.ld X.e r0_30) (View.ld X.n r0_31) (View.ld X.e r0_32) (View.ld X.n r0_33)
        = (step 15 (chunk X 15 (by decide)) (step 14 (chunk X 14 (by decide)) (step 13 (chunk X 13 (by decide)) p))).2 :=
  ⟨rfl, rfl⟩

/-- The output block is the merge of the three groups, in the block's shape. -/
theorem out_eq : out0_4 X.h X.e X.q X.n = k0_pay1 (merged (group0 X) (group1 X) (group2 X)) := by
  unfold out0_4
  refine (View.canon_unit_zero (S := S1x1x1024) (off := ![0, 0, 0]) (by decide) _ _).trans ?_
  unfold group0 group1 group2
  rw [← pay77_eq, ← (chunks45 X _).1, ← (chunks45 X _).2, ← (chunks23 X _).1, ← (chunks23 X _).2, ← (chunks01 X).1, ← (chunks01 X).2,
    ← (chunks9_10 X _).1, ← (chunks9_10 X _).2, ← (chunks678 X _).1, ← (chunks678 X _).2, ← (chunk5 X).1, ← (chunk5 X).2,
    ← (chunks13_15 X _).1, ← (chunks13_15 X _).2, ← (chunks10_12 X).1, ← (chunks10_12 X).2]
  rfl

variable {X}

/-- A state is the running least over the codes from `lo` to `hi`. -/
def Covers (f : Fin 1024 → ℕ → EReal) (lo hi : ℕ) (p : State) : Prop := Acc f lo hi p.1 p.2

variable {f : Fin 1024 → ℕ → EReal} {lo hi : ℕ} {s : FVec Ideal S512x1024 .f32} {p : State}

/-- A group before its first chunk covers no code. -/
theorem covers_start (lo : ℕ) : Covers f lo lo start := Acc.init lo

/-- A whole chunk adds its 512 codes. -/
theorem Covers.whole (h : Covers f lo hi p) (c : ℕ) (hs : IsChunk f c s) (hc : c < 16) (hlo : lo ≤ 512 * c) (hhi : hi = 512 * c) :
    Covers f lo (512 * c + 512) (step c s p) := by
  subst hhi
  exact Acc.whole c h hs hc hlo

/-- A masked chunk adds the codes its mask keeps. -/
theorem Covers.part (h : Covers f lo hi p) (c l u : ℕ) (hs : IsChunk f c s) (hc : c < 16) (hl : l = lo - 512 * c)
    (hhi : hi = max lo (512 * c)) (hlu : l ≤ u) (hu : u ≤ 512) :
    Covers f lo (512 * c + u) (step c (masked (BitVec.ofNat 32 l) (BitVec.ofNat 32 u) s) p) :=
  Acc.part c l u h hs hc hl hhi hlu hu

/-- The first group covers the codes from 0 to 2736. -/
theorem group0_covers : Covers (fun t => onCodes (codeScore X t)) 0 2736 (group0 X) := by
  have h := fun c hc => chunk_isChunk X c hc
  have h₀ := (covers_start 0).whole 0 (h 0 (by decide)) (by decide) (by decide) rfl
  have h₁ := h₀.whole 1 (h 1 (by decide)) (by decide) (by decide) rfl
  have h₂ := h₁.whole 2 (h 2 (by decide)) (by decide) (by decide) rfl
  have h₃ := h₂.whole 3 (h 3 (by decide)) (by decide) (by decide) rfl
  have h₄ := h₃.whole 4 (h 4 (by decide)) (by decide) (by decide) rfl
  exact h₄.part 5 0 176 (h 5 (by decide)) (by decide) rfl rfl (by decide) (by decide)

/-- The second group covers the codes from 2736 to 5472. -/
theorem group1_covers : Covers (fun t => onCodes (codeScore X t)) 2736 5472 (group1 X) := by
  have h := fun c hc => chunk_isChunk X c hc
  have h₀ := (covers_start 2736).part 5 176 512 (h 5 (by decide)) (by decide) rfl rfl (by decide) (by decide)
  have h₁ := h₀.whole 6 (h 6 (by decide)) (by decide) (by decide) rfl
  have h₂ := h₁.whole 7 (h 7 (by decide)) (by decide) (by decide) rfl
  have h₃ := h₂.whole 8 (h 8 (by decide)) (by decide) (by decide) rfl
  have h₄ := h₃.whole 9 (h 9 (by decide)) (by decide) (by decide) rfl
  exact h₄.part 10 0 352 (h 10 (by decide)) (by decide) rfl rfl (by decide) (by decide)

/-- The third group covers the codes from 5472 to 8192. -/
theorem group2_covers : Covers (fun t => onCodes (codeScore X t)) 5472 8192 (group2 X) := by
  have h := fun c hc => chunk_isChunk X c hc
  have h₀ := (covers_start 5472).part 10 352 512 (h 10 (by decide)) (by decide) rfl rfl (by decide) (by decide)
  have h₁ := h₀.whole 11 (h 11 (by decide)) (by decide) (by decide) rfl
  have h₂ := h₁.whole 12 (h 12 (by decide)) (by decide) (by decide) rfl
  have h₃ := h₂.whole 13 (h 13 (by decide)) (by decide) (by decide) rfl
  have h₄ := h₃.whole 14 (h 14 (by decide)) (by decide) (by decide) rfl
  exact h₄.whole 15 (h 15 (by decide)) (by decide) (by decide) rfl

/-- At every token the output block holds the first code whose score is least. -/
theorem out_best (t : Fin 1024) :
    ∃ v, Best (onCodes (codeScore X t)) (· < 8192) 0 v (out0_4 X.h X.e X.q X.n (ix3 0 0 t)).toNat := by
  have h₀ := Acc.group (group0_covers (X := X)) (by decide) t
  have h₁ := Acc.group (group1_covers (X := X)) (by decide) t
  have h₂ := Acc.group (group2_covers (X := X)) (by decide) t
  have h₀₁ := merge_best (R := fun n => n < 5472) h₀ h₁ (fun n hn => by omega) (fun n hn => by omega) (fun n => by omega)
  have h := merge_best (R := (· < 8192)) h₀₁ h₂ (fun n hn => by omega) (fun n hn => by omega) (fun n => by omega)
  have hx : out0_4 X.h X.e X.q X.n (ix3 0 0 t) = merged (group0 X) (group1 X) (group2 X) (ix2 0 t) := by
    rw [out_eq]
    generalize merged (group0 X) (group1 X) (group2 X) = y
    pointwise [k0_pay1]
  rw [hx]
  exact ⟨_, h⟩

end Cert.KernelIdeal.Hand

end
-- ==== Proof.Host.lean ====
/-
  What the kernel's host lines before the grid leave in the four arrays it reads, index by index in the two arguments.
-/
module

public import proofs.«01_k».proof.Proof.Gen.KernelIdeal.Frame
public import Idealize.ShloMosaic.Lib.Pointwise
public import Idealize.ShloMosaic.Lib.StableHlo.ReadAt

@[expose] public section

set_option maxRecDepth 16384

noncomputable section

namespace Cert.KernelIdeal.Hand

open Idealize.ShloMosaic
open Cert.KernelIdeal Cert.KernelIdeal.Gen

/-- Entry `k` of the token at place `t` of slab `i`. -/
def token (x : FVec Ideal S8x4x256x32x32 .f32) (i : Fin 32) (t : Fin 1024) (k : Fin 256) : EReal :=
  x (ix5 ⟨i / 4, by omega⟩ ⟨i % 4, by omega⟩ k ⟨t / 32, by omega⟩ ⟨t % 32, by omega⟩)

/-- Entry `k` of code `n`. -/
def code (e : FVec Ideal S8192x256 .f32) (n : Fin 8192) (k : Fin 256) : EReal := e (ix2 n k)

/-- The squared distance from that token to code `n`, as the two squared norms less twice the inner product. -/
def distance (x : FVec Ideal S8x4x256x32x32 .f32) (e : FVec Ideal S8192x256 .f32) (i : Fin 32) (t : Fin 1024) (n : Fin 8192) : EReal :=
  ((∑ k : Fin 256, token x i t k * token x i t k) + ∑ k : Fin 256, code e n k * code e n k)
    - Ideal.ofBits .f32 0x40000000#32 * ∑ k : Fin 256, code e n k * token x i t k

variable (m : (ℓ : Loc nD τ sig) → Buf (Elt Ideal) ℓ) (c : Dev nD)

/-- The array of slabs holds the tokens. -/
theorem V_tokens (i : Fin 32) (k : Fin 256) (t : Fin 1024) :
    (V m c main_v8 (ix3 i k t) : EReal) = token (m (c.tc.loc main_arg0)) i t k := by
  unfold V token
  after_reads_at

/-- The array of codes holds the codes. -/
theorem V_codes (n : Fin 8192) (k : Fin 256) : (V m c main_v9 (ix2 n k) : EReal) = code (m (c.tc.loc main_arg1)) n k := by
  unfold V code
  after_reads_at

/-- The tokens' squared norms. -/
theorem V_tokenNorms (i : Fin 32) (t : Fin 1024) :
    (V m c main_v3 (ix3 i 0 t) : EReal)
      = ∑ k : Fin 256, token (m (c.tc.loc main_arg0)) i t k * token (m (c.tc.loc main_arg0)) i t k := by
  unfold V token
  after_reads_at

/-- The codes' squared norms. -/
theorem V_codeNorms (n : Fin 8192) :
    (V m c main_v6 (ix2 n 0) : EReal)
      = ∑ k : Fin 256, code (m (c.tc.loc main_arg1)) n k * code (m (c.tc.loc main_arg1)) n k := by
  unfold V code
  after_reads_at

end Cert.KernelIdeal.Hand

end
-- ==== Proof.Array.lean ====
/-
  The kernel's result array, block by block: at slab `i` and place `t`, the first code whose distance from that token is least.
-/
module

public import proofs.«01_k».proof.Proof.Body
public import proofs.«01_k».proof.Proof.Host

@[expose] public section

set_option maxRecDepth 16384

noncomputable section

namespace Cert.KernelIdeal.Hand

open Idealize.ShloMosaic Cert.Hand
open Cert.KernelIdeal Cert.KernelIdeal.Gen

variable (m : (ℓ : Loc nD τ sig) → Buf (Elt Ideal) ℓ) (c : Dev nD)

/-- The grid point of slab `i`. -/
def point (i : Fin 32) : Fin cfg0.N := ⟨i, i.isLt⟩

/-- The three windows that move read slab `i` at its point; the two others stay at the origin. -/
theorem index_facts : ∀ i : Fin 32,
    (win0_0.index (point i) 0 = i.val ∧ win0_0.index (point i) 1 = 0 ∧ win0_0.index (point i) 2 = 0)
    ∧ (win0_1.index (point i) 0 = 0 ∧ win0_1.index (point i) 1 = 0)
    ∧ (win0_2.index (point i) 0 = i.val ∧ win0_2.index (point i) 1 = 0 ∧ win0_2.index (point i) 2 = 0)
    ∧ (win0_3.index (point i) 0 = 0 ∧ win0_3.index (point i) 1 = 0)
    ∧ (win0_4.index (point i) 0 = i.val ∧ win0_4.index (point i) 1 = 0 ∧ win0_4.index (point i) 2 = 0)
    ∧ (cfg0.win 4).flush (point i) = true := by
  decide +kernel

/-- The slab's block of tokens. -/
theorem iblk0_apply (i : Fin 32) (k : Fin 256) (t : Fin 1024) :
    (iblk m c 0 (point i) : Vec Ideal S1x256x1024 .bf16) (ix3 0 k t) = V m c main_v8 (ix3 i k t) := by
  obtain ⟨⟨h0, h1, h2⟩, -⟩ := index_facts i
  unfold iblk
  rw [View.read_apply]
  show V m c main_v8 _ = _
  congr 1
  funext a
  apply Fin.ext
  match a with
  | ⟨0, _⟩ => show win0_0.index (point i) 0 * 1 + 1 * 0 = i.val; rw [h0]; omega
  | ⟨1, _⟩ => show win0_0.index (point i) 1 * 256 + 1 * k.val = k.val; rw [h1]; omega
  | ⟨2, _⟩ => show win0_0.index (point i) 2 * 1024 + 1 * t.val = t.val; rw [h2]; omega

/-- The codes, whole at every point. -/
theorem iblk1_apply (i : Fin 32) (n : Fin 8192) (k : Fin 256) :
    (iblk m c 1 (point i) : Vec Ideal S8192x256 .bf16) (ix2 n k) = V m c main_v9 (ix2 n k) := by
  obtain ⟨-, ⟨h0, h1⟩, -⟩ := index_facts i
  unfold iblk
  rw [View.read_apply]
  show V m c main_v9 _ = _
  congr 1
  funext a
  apply Fin.ext
  match a with
  | ⟨0, _⟩ => show win0_1.index (point i) 0 * 8192 + 1 * n.val = n.val; rw [h0]; omega
  | ⟨1, _⟩ => show win0_1.index (point i) 1 * 256 + 1 * k.val = k.val; rw [h1]; omega

/-- The slab's squared norms. -/
theorem iblk2_apply (i : Fin 32) (t : Fin 1024) :
    (iblk m c 2 (point i) : Vec Ideal S1x1x1024 .f32) (ix3 0 0 t) = V m c main_v3 (ix3 i 0 t) := by
  obtain ⟨-, -, ⟨h0, h1, h2⟩, -⟩ := index_facts i
  unfold iblk
  rw [View.read_apply]
  show V m c main_v3 _ = _
  congr 1
  funext a
  apply Fin.ext
  match a with
  | ⟨0, _⟩ => show win0_2.index (point i) 0 * 1 + 1 * 0 = i.val; rw [h0]; omega
  | ⟨1, _⟩ => show win0_2.index (point i) 1 * 1 + 1 * 0 = 0; rw [h1]
  | ⟨2, _⟩ => show win0_2.index (point i) 2 * 1024 + 1 * t.val = t.val; rw [h2]; omega

/-- The codes' squared norms, whole at every point. -/
theorem iblk3_apply (i : Fin 32) (n : Fin 8192) :
    (iblk m c 3 (point i) : Vec Ideal S8192x1 .f32) (ix2 n 0) = V m c main_v6 (ix2 n 0) := by
  obtain ⟨-, -, -, ⟨h0, h1⟩, -⟩ := index_facts i
  unfold iblk
  rw [View.read_apply]
  show V m c main_v6 _ = _
  congr 1
  funext a
  apply Fin.ext
  match a with
  | ⟨0, _⟩ => show win0_3.index (point i) 0 * 8192 + 1 * n.val = n.val; rw [h0]; omega
  | ⟨1, _⟩ => show win0_3.index (point i) 1 * 1 + 1 * 0 = 0; rw [h1]

/-- What the body reads at slab `i`. -/
def inputs (i : Fin 32) : Inputs :=
  ⟨iblk m c 0 (point i), iblk m c 1 (point i), iblk m c 2 (point i), iblk m c 3 (point i)⟩

/-- The body's scores there are the distances. -/
theorem codeScore_inputs (i : Fin 32) (t : Fin 1024) :
    codeScore (inputs m c i) t = distance (m (c.tc.loc main_arg0)) (m (c.tc.loc main_arg1)) i t := by
  funext n
  have hq := (iblk2_apply m c i t).trans (V_tokenNorms m c i t)
  have hn := (iblk3_apply m c i n).trans (V_codeNorms m c n)
  have hd : ∀ k : Fin 256, _ := fun k =>
    congrArg₂ (fun a b : EReal => a * b) ((iblk1_apply m c i n k).trans (V_codes m c n k))
      ((iblk0_apply m c i k t).trans (V_tokens m c i k t))
  exact congrArg₂ (fun a b : EReal => a - b) (congrArg₂ (fun a b : EReal => a + b) hq hn)
    (congrArg (fun a : EReal => Ideal.ofBits .f32 0x40000000#32 * a) (Finset.sum_congr rfl fun k _ => hd k))

/-- Two points' output blocks share no index. -/
theorem disjoint_out : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h =>
    hne ((by decide +kernel : ∀ t t' : Fin grid0.N, win0_4.index t = win0_4.index t' → t = t') t t' h)

/-- The result array at slab `i` is what the body left at its point. -/
theorem array_apply (i : Fin 32) (t : Fin 1024) :
    ((dats m 0 c).arrAt 4 cfg0.N : IVec S32x1x1024 32) (ix3 i 0 t)
      = out0_4 (inputs m c i).h (inputs m c i).e (inputs m c i).q (inputs m c i).n (ix3 0 0 t) := by
  obtain ⟨-, -, -, -, ⟨h0, h1, h2⟩, hf⟩ := index_facts i
  have hb := (dats m 0 c).read_blk_arrAt_eq_flushed 4 disjoint_out cfg0.N (point i) (point i).isLt hf
  have hx : (dats m 0 c).flushed 4 (point i)
      = (cfg0.win 4).cut (grid0.coords (point i))
        (out0_4 (iblk m c 0 (point i)) (iblk m c 1 (point i)) (iblk m c 2 (point i)) (iblk m c 3 (point i))) := by
    show (cfg0.win 4).cut (grid0.coords (point i)) ((dats m 0 c).after 4 (point i)) = _
    rw [after0_4]
  have hj := congrFun (hb.trans hx) (ix3 0 0 t : S1x1x1024.Idx)
  rw [View.read_apply] at hj
  refine Eq.trans ?_ hj
  show ((dats m 0 c).arrAt 4 cfg0.N : IVec S32x1x1024 32) _ = ((dats m 0 c).arrAt 4 cfg0.N : IVec S32x1x1024 32) _
  congr 1
  funext a
  apply Fin.ext
  match a with
  | ⟨0, _⟩ => show i.val = win0_4.index (point i) 0 * 1 + 1 * 0; rw [h0]; omega
  | ⟨1, _⟩ => show 0 = win0_4.index (point i) 1 * 1 + 1 * 0; rw [h1]
  | ⟨2, _⟩ => show t.val = win0_4.index (point i) 2 * 1024 + 1 * t.val; rw [h2]; omega

/-- At slab `i` and place `t` the result array holds the first code whose distance is least. -/
theorem array_best (i : Fin 32) (t : Fin 1024) :
    ∃ v, Best (onCodes (distance (m (c.tc.loc main_arg0)) (m (c.tc.loc main_arg1)) i t)) (· < 8192) 0 v
      (((dats m 0 c).arrAt 4 cfg0.N : IVec S32x1x1024 32) (ix3 i 0 t)).toNat := by
  rw [array_apply, ← codeScore_inputs]
  exact out_best t

end Cert.KernelIdeal.Hand

end
-- ==== Proof.KernelRun.lean ====
/-
  The kernel's run: its result is the result array of the grid, reshaped, and its arguments end unchanged.
-/
module

public import proofs.«01_k».proof.Proof.Gen.KernelIdeal.Frame
public import Idealize.ShloMosaic.Lib.Pointwise
public import Idealize.ShloMosaic.Lib.StableHlo.ReadAt

@[expose] public section

set_option maxRecDepth 16384

noncomputable section

namespace Cert.KernelIdeal.Hand

open Idealize.ShloMosaic Idealize.ShloMosaic.TcCoe Idealize.SL.Sem
open Cert.KernelIdeal Cert.KernelIdeal.Gen

/-- The result: the grid's slabs of indices, as the hidden state's batch, frame, row and column. -/
def out (y : IVec S32x1x1024 32) : IVec S8x4x32x32 32 := shapeCast S8x4x32x32 y shapeCasts_S32x1x1024_S8x4x32x32

/-- The place in the grid's slabs of batch `b`, frame `f`, row `h` and column `w`. -/
theorem out_apply (y : IVec S32x1x1024 32) (b : Fin 8) (f : Fin 4) (h : Fin 32) (w : Fin 32) :
    out y (ix4 b f h w) = y (ix3 ⟨b * 4 + f, by omega⟩ 0 ⟨h * 32 + w, by omega⟩) := by
  pointwise [out]

variable (m : (ℓ : Loc nD τ sig) → Buf (Elt Ideal) ℓ) (c : Dev nD)

/-- The indices the grid leaves, slab by slab. -/
def slabs : IVec S32x1x1024 32 := (dats m 0 c).arrAt 4 cfg0.N

/-- The windows stand on distinct arrays. -/
theorem arrays_distinct : Function.Injective (Pipeline.arrRef spec0) := by decide

/-- The line after the grid reshapes what the grid leaves. -/
theorem tail_eq (V : Valuation τ sig (Elt Ideal)) :
    StableHlo.after ([hostOps1 (F := Ideal)].flatten) V (Proc.devRef .tc main_v11) = out (V (Proc.devRef .tc main_v10)) := by
  simp only [hostOps1, List.flatten_cons, List.flatten_nil, List.append_nil]
  after_results_simp
  rfl

/-- The result buffer after that line. -/
theorem W_out : Pipeline.afterTail₀ cfgs (dats m) 0 (V0 m) [hostOps1] c main_v11 = out (slabs m c) := by
  unfold Pipeline.afterTail₀
  refine (tail_eq _).trans (congrArg out ?_)
  exact Pipeline.withArrays_arr spec0 arrays_distinct c (V0 m c) (fun w => (dats m 0 c).arrAt w cfg0.N) 4

/-- The kernel runs, its result ends at `out` of the grid's slabs, and its arguments end unchanged. -/
theorem run (g : Dev nD → PrngReg) :
    θ_run (defs (F := Ideal)) (onTc (τ := τ) (main (F := Ideal))) ⟨m, fun _ => 0, g⟩ (fun r => ∀ c : Dev nD,
      r.2.mem ((c.tc : Thread nD τ).loc main_v11) = out (slabs m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v11 (Pipeline.mem_restRefs_of main_v11 (by decide) (by decide))).trans (W_out m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m g)

end Cert.KernelIdeal.Hand

end
-- ==== Proof.RefRun.lean ====
/-
  The reference's run: a straight line of host operations, so it ends with every buffer at the composition of the operations that
  lead to it, the arguments unchanged, and the counters, of which there are none, at zero.
-/
module

public import proofs.«01_k».proof.Defs
public import proofs.«01_k».proof.Proof.Gen.ReferenceIdeal
public import Idealize.ShloMosaic.Lib.Claim
public import Idealize.ShloMosaic.Lib.Pipeline.Frame
public import Idealize.ShloMosaic.Lib.StableHlo.RunHlo
public import Idealize.ShloMosaic.Lib.Tactic

@[expose] public section

noncomputable section

namespace Cert.ReferenceIdeal.Hand

open Idealize.ShloMosaic Idealize.ShloMosaic.TcCoe Idealize.SL.Sem Idealize.ShloMosaic.StableHlo
open Cert.ReferenceIdeal Cert.ReferenceIdeal.Gen

variable {F : FTy → Type} [FloatOps F]

/-- The hidden state as a matrix: one row a token, one column a channel. -/
def flat (x : (⟨S8x4x256x32x32, .f32⟩ : BufTy).Contents (Elt F)) : FVec F S32768x256 .f32 :=
  shapeCast S32768x256
    (transpose S8x4x32x32x256 [0, 1, 3, 4, 2] x transposes_S8x4x256x32x32_S8x4x32x32x256_0_1_3_4_2) shapeCasts_S8x4x32x32x256_S32768x256

/-- The squared distances of all rows of `h` to all codes, as the reference composes them: one row a token, one column a code. -/
def dist (h : FVec F S32768x256 .f32) (e : (⟨S8192x256, .f32⟩ : BufTy).Contents (Elt F)) : FVec F S32768x8192 .f32 :=
  subf
    (addf
      (broadcastInDim S32768x8192 ![0, 1] bcast_S32768x1_S32768x8192_0_1 (broadcastInDim S32768x1 ![0] bcast_S32768_S32768x1_0
        (Host.reduceAdd (mulf h h) (constant (F := F) S_ .f32 0x00000000#32) reducesTo_S32768x256_S32768_d1 h_S_)))
      (broadcastInDim S32768x8192 ![0, 1] bcast_S1x8192_S32768x8192_0_1 (broadcastInDim S1x8192 ![1] bcast_S8192_S1x8192_1
        (Host.reduceAdd (mulf e e) (constant (F := F) S_ .f32 0x00000000#32) reducesTo_S8192x256_S8192_d1 h_S_))))
    (mulf
      (broadcastInDim S32768x8192 ![] bcast_S_S32768x8192 (constant (F := F) S_ .f32 0x40000000#32))
      (Host.dotGeneral (φ₂ := .f32) dot_S32768x256_S256x8192_S32768x8192_1_0_0_1_n_n none h
        (transpose (α := F .f32) S256x8192 [1, 0] e transposes_S8192x256_S256x8192_1_0)))

/-- The host's arg-min along the codes, from one initial pair: for each token a distance and an index. -/
abbrev argMin (x : FVec F S32768x8192 .f32) (y : IVec S32768x8192 32) (u : FVec F S_ .f32) (v : IVec S_ 32)
    (j : S32768.Idx) : F .f32 × BitVec 32 :=
  Host.argReduce (reducer_argmin_f32_i32 (F := F)) x y u v reducesTo_S32768x8192_S32768_d1 h_S_ j

/-- The reference's result: for each token the index half of the host's arg-min over its row of distances. -/
def out (x : (⟨S8x4x256x32x32, .f32⟩ : BufTy).Contents (Elt F)) (e : (⟨S8192x256, .f32⟩ : BufTy).Contents (Elt F)) :
    IVec S8x4x32x32 32 :=
  shapeCast S8x4x32x32
    (fun j => (argMin (dist (flat x) e) (iotaInDim S32768x8192 32 1) (constant (F := F) S_ .f32 0x7F800000#32)
      (constantI S_ 32 0#32) j).2)
    shapeCasts_S32768_S8x4x32x32

/-- The first operations of the reference's @main, in order: those that compute the distances. -/
def distOps : List (HloOp τ sig (Elt F)) :=
  [ unary main_arg0 main_v0 ((transpose S8x4x32x32x256 [0, 1, 3, 4, 2] · transposes_S8x4x256x32x32_S8x4x32x32x256_0_1_3_4_2) : (⟨S8x4x256x32x32, .f32⟩ : BufTy).Contents (Elt F) → (⟨S8x4x32x32x256, .f32⟩ : BufTy).Contents (Elt F)),
    reshape main_v0 main_v1 (rfl : (.f32 : EltTy) = .f32) shapeCasts_S8x4x32x32x256_S32768x256,
    binary main_v1 main_v1 main_v2 (mulf : (⟨S32768x256, .f32⟩ : BufTy).Contents (Elt F) → (⟨S32768x256, .f32⟩ : BufTy).Contents (Elt F) → (⟨S32768x256, .f32⟩ : BufTy).Contents (Elt F)),
    nullary main_cst (constant (F := F) S_ .f32 0x00000000#32),
    binary main_v2 main_cst main_v3 ((fun x v => Host.reduceAdd x v reducesTo_S32768x256_S32768_d1 h_S_) : (⟨S32768x256, .f32⟩ : BufTy).Contents (Elt F) → (⟨S_, .f32⟩ : BufTy).Contents (Elt F) → (⟨S32768, .f32⟩ : BufTy).Contents (Elt F)),
    unary main_v3 main_v4 (broadcastInDim S32768x1 ![0] bcast_S32768_S32768x1_0 : (⟨S32768, .f32⟩ : BufTy).Contents (Elt F) → (⟨S32768x1, .f32⟩ : BufTy).Contents (Elt F)),
    binary main_arg1 main_arg1 main_v5 (mulf : (⟨S8192x256, .f32⟩ : BufTy).Contents (Elt F) → (⟨S8192x256, .f32⟩ : BufTy).Contents (Elt F) → (⟨S8192x256, .f32⟩ : BufTy).Contents (Elt F)),
    nullary main_cst_0 (constant (F := F) S_ .f32 0x00000000#32),
    binary main_v5 main_cst_0 main_v6 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    unary main_v6 main_v7 (broadcastInDim S1x8192 ![1] bcast_S8192_S1x8192_1 : (⟨S8192, .f32⟩ : BufTy).Contents (Elt F) → (⟨S1x8192, .f32⟩ : BufTy).Contents (Elt F)),
    unary main_v4 main_v8 (broadcastInDim S32768x8192 ![0, 1] bcast_S32768x1_S32768x8192_0_1 : (⟨S32768x1, .f32⟩ : BufTy).Contents (Elt F) → (⟨S32768x8192, .f32⟩ : BufTy).Contents (Elt F)),
    unary main_v7 main_v9 (broadcastInDim S32768x8192 ![0, 1] bcast_S1x8192_S32768x8192_0_1 : (⟨S1x8192, .f32⟩ : BufTy).Contents (Elt F) → (⟨S32768x8192, .f32⟩ : BufTy).Contents (Elt F)),
    binary main_v8 main_v9 main_v10 (addf : (⟨S32768x8192, .f32⟩ : BufTy).Contents (Elt F) → (⟨S32768x8192, .f32⟩ : BufTy).Contents (Elt F) → (⟨S32768x8192, .f32⟩ : BufTy).Contents (Elt F)),
    unary main_arg1 main_v11 ((transpose S256x8192 [1, 0] · transposes_S8192x256_S256x8192_1_0) : (⟨S8192x256, .f32⟩ : BufTy).Contents (Elt F) → (⟨S256x8192, .f32⟩ : BufTy).Contents (Elt F)),
    binary main_v1 main_v11 main_v12 ((fun l r => Host.dotGeneral dot_S32768x256_S256x8192_S32768x8192_1_0_0_1_n_n none l r) : (⟨S32768x256, .f32⟩ : BufTy).Contents (Elt F) → (⟨S256x8192, .f32⟩ : BufTy).Contents (Elt F) → (⟨S32768x8192, .f32⟩ : BufTy).Contents (Elt F)),
    nullary main_cst_1 (constant (F := F) S_ .f32 0x40000000#32),
    unary main_cst_1 main_v13 (broadcastInDim S32768x8192 ![] bcast_S_S32768x8192 : (⟨S_, .f32⟩ : BufTy).Contents (Elt F) → (⟨S32768x8192, .f32⟩ : BufTy).Contents (Elt F)),
    binary main_v13 main_v12 main_v14 (mulf : (⟨S32768x8192, .f32⟩ : BufTy).Contents (Elt F) → (⟨S32768x8192, .f32⟩ : BufTy).Contents (Elt F) → (⟨S32768x8192, .f32⟩ : BufTy).Contents (Elt F)),
    binary main_v10 main_v14 main_v15 (subf : (⟨S32768x8192, .f32⟩ : BufTy).Contents (Elt F) → (⟨S32768x8192, .f32⟩ : BufTy).Contents (Elt F) → (⟨S32768x8192, .f32⟩ : BufTy).Contents (Elt F)) ]

/-- The last operations of the reference's @main, in order: those that take the arg-min of the distances. -/
def minOps : List (HloOp τ sig (Elt F)) :=
  [ TRef.nullary main_call0.v0 (iotaInDim S32768x8192 32 1),
    TRef.nullary main_call0.cst (constant (F := F) S_ .f32 0x7F800000#32),
    TRef.nullary main_call0.c (constantI S_ 32 0#32),
    TRef.quaternary (.of main_v15) main_call0.v0 main_call0.cst main_call0.c main_call0.v1_0 (fun x y u v j => (argMin x y u v j).1),
    TRef.quaternary (.of main_v15) main_call0.v0 main_call0.cst main_call0.c main_call0.v1_1 (fun x y u v j => (argMin x y u v j).2),
    reshape main_v16 main_v17 (rfl : (.i32 : EltTy) = .i32) shapeCasts_S32768_S8x4x32x32 ]

/-- The operations of the reference's @main, in order. -/
def ops : List (HloOp τ sig (Elt F)) := distOps ++ minOps

/-- @main is that straight line. -/
theorem main_eq (c : Dev nD) : main (F := F) c = seq ops := by
  change IsSeq (main (F := F) c) ops
  simp only [ops, distOps, minOps, List.cons_append, List.nil_append]
  simp only [main, fn_argmin.body, bind_assoc, pure_bind]
  hlo_seq

/-- Each buffer an operation touches is one of the TensorCore's. -/
theorem ops_sub : (ops (F := F)).Forall fun op => op.bufs ⊆ tcRefs τ sig := by
  simp [ops, distOps, minOps]

/-- Every operation determines its result. -/
theorem ops_fresh : ∀ op ∈ ops (F := F), op.fresh = ∅ := by
  intro _ h
  simp only [ops, distOps, minOps, List.cons_append, List.nil_append] at h
  (repeat (cases h with | head => rfl | tail _ h => ?_)); exact nomatch h

/-- The first operations end with the hidden state as a matrix. -/
theorem flat_eq (V : Valuation τ sig (Elt F)) :
    after (distOps (F := F)) V (main_v1 : DevRef τ sig) = flat (V (main_arg0 : DevRef τ sig)) := by
  unfold distOps
  after_results_simp
  rfl

/-- The first operations end with the distances, over that matrix. -/
theorem dist_eq (V : Valuation τ sig (Elt F)) :
    after (distOps (F := F)) V (main_v15 : DevRef τ sig)
      = dist (after (distOps (F := F)) V (main_v1 : DevRef τ sig)) (V (main_arg1 : DevRef τ sig)) := by
  unfold distOps
  after_results_simp
  rfl

/-- The last operations end with the result, over whatever distances they find. -/
theorem min_eq (V : Valuation τ sig (Elt F)) :
    after (minOps (F := F)) V (main_v17 : DevRef τ sig)
      = shapeCast S8x4x32x32
        (fun j => (argMin (V (main_v15 : DevRef τ sig)) (iotaInDim S32768x8192 32 1)
          (constant (F := F) S_ .f32 0x7F800000#32) (constantI S_ 32 0#32) j).2)
        shapeCasts_S32768_S8x4x32x32 := by
  unfold minOps
  after_results_simp
  have h15 : ∀ v : (⟨S32768x8192, .f32⟩ : BufTy).Contents (Elt F), (TRef.of main_v15 rfl (by decide) (by decide) : TRef sig ⟨S32768x8192, .f32⟩).ofBuf v = v := fun _ => rfl
  have h16 : ∀ v : (⟨S32768, .i32⟩ : BufTy).Contents (Elt F), (TRef.of main_v16 rfl (by decide) (by decide) : TRef sig ⟨S32768, .i32⟩).toBuf v = v := fun _ => rfl
  simp only [TRef.ofBuf_toBuf]
  rw [h15, h16]
  generalize (fun j => (argMin (F := F) _ _ _ _ j).2) = X
  funext i
  exact congrFun (a := i) rfl

/-- The whole line ends with the result at `out` of the arguments. -/
theorem out_eq (V : Valuation τ sig (Elt F)) :
    after (ops (F := F)) V (main_v17 : DevRef τ sig) = out (V (main_arg0 : DevRef τ sig)) (V (main_arg1 : DevRef τ sig)) := by
  rw [ops, after_append, min_eq, dist_eq, flat_eq]
  unfold out
  with_reducible rfl

/-- The line leaves its first argument unchanged. -/
theorem arg0_eq (V : Valuation τ sig (Elt F)) :
    after (ops (F := F)) V (main_arg0 : DevRef τ sig) = V (main_arg0 : DevRef τ sig) := by
  rw [ops, after_append, minOps, distOps]
  after_results_simp

/-- The line leaves its second argument unchanged. -/
theorem arg1_eq (V : Valuation τ sig (Elt F)) :
    after (ops (F := F)) V (main_arg1 : DevRef τ sig) = V (main_arg1 : DevRef τ sig) := by
  rw [ops, after_append, minOps, distOps]
  after_results_simp

/-- The reference runs, its result ends at `out` of the arguments, and the arguments end unchanged. -/
theorem run (m : (ℓ : Loc nD τ sig) → Buf (Elt F) ℓ) (g : Dev nD → PrngReg) :
    θ_run (defs (F := F)) (onTc (τ := τ) (main (F := F))) ⟨m, fun _ => 0, g⟩ (fun r => ∀ c : Dev nD,
      r.2.mem ((c.tc : Thread nD τ).loc main_v17)
          = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  θ_run_mono (run_seq (by decide) (by decide) defs main (fun _ => ops) main_eq (fun _ => ops_sub) m g (fun _ => ops_fresh))
    fun r h c => ⟨(h c main_v17).trans (out_eq _), (h c main_arg0).trans (arg0_eq _), (h c main_arg1).trans (arg1_eq _)⟩

/-- The same run's frame: the arguments unchanged, every counter zero. -/
theorem frame (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (run m g) fun r h => ⟨fun c => (h c).2, funext fun s => by
    rcases s with ⟨t, i | i⟩ <;> exact i.elim0⟩

end Cert.ReferenceIdeal.Hand

end
-- ==== Proof.RefValue.lean ====
/-
  What the reference computes, index by index: its rows, their distances to the codes, and the host's arg-min of a row, which is the
  first code whose distance is least.
-/
module

public import proofs.«01_k».proof.Proof.RefRun
public import proofs.«01_k».proof.Proof.Best
public import Idealize.ShloMosaic.Lib.Pointwise

@[expose] public section

set_option maxRecDepth 16384

noncomputable section

namespace Cert.ReferenceIdeal.Hand

open Idealize.ShloMosaic Cert.Hand
open Cert.ReferenceIdeal Cert.ReferenceIdeal.Gen

/-- Channel `k` of row `r`. -/
theorem flat_apply (x : FVec Ideal S8x4x256x32x32 .f32) (r : Fin 32768) (k : Fin 256) :
    flat (F := Ideal) x (ix2 r k)
      = x (ix5 ⟨r / 4096, by omega⟩ ⟨r / 1024 % 4, by omega⟩ k ⟨r / 32 % 32, by omega⟩ ⟨r % 32, by omega⟩) := by
  pointwise [flat]

/-- The distance of row `r` to code `n`. -/
theorem dist_apply (h : FVec Ideal S32768x256 .f32) (e : FVec Ideal S8192x256 .f32) (r : Fin 32768) (n : Fin 8192) :
    (dist (F := Ideal) h e (ix2 r n) : EReal)
      = ((∑ k : Fin 256, (h (ix2 r k) * h (ix2 r k) : EReal)) + ∑ k : Fin 256, (e (ix2 n k) * e (ix2 n k) : EReal))
        - Ideal.ofBits .f32 0x40000000#32 * ∑ k : Fin 256, (h (ix2 r k) * e (ix2 n k) : EReal) := by
  pointwise [dist]

/-- The result's place of row `b * 4096 + f * 1024 + h * 32 + w`. -/
theorem cast_apply (y : IVec S32768 32) (b : Fin 8) (f : Fin 4) (h : Fin 32) (w : Fin 32) :
    shapeCast S8x4x32x32 y shapeCasts_S32768_S8x4x32x32 (ix4 b f h w) = y (ix1 ⟨b * 4096 + f * 1024 + h * 32 + w, by omega⟩) := by
  pointwise

/-- The number the host pairs with code `n`. -/
theorem iota_apply (r : Fin 32768) (n : Fin 8192) : iotaInDim S32768x8192 32 1 (ix2 r n) = BitVec.ofNat 32 n.val := by
  pointwise

/-- The pair of code `n`: its value and its number. -/
def pair (g : ℕ → EReal) (n : ℕ) : Ideal .f32 × BitVec 32 := (g n, BitVec.ofNat 32 n)

/-- One step of the host's arg-min: the first pair's index stays if its value is less, or equal with a lesser index. -/
theorem reducer_apply (a b : EReal) (i j : BitVec 32) :
    reducer_argmin_f32_i32 (F := Ideal) (a, i) (b, j) = (if a < b then a else b, if a < b ∨ a = b ∧ i.slt j then i else j) := by
  have h₁ : (FloatOps.cmpf (F := Ideal) (φ := .f32) .olt a b : BitVec 1) = BitVec.ofBool (decide (a < b)) := rfl
  have h₂ : (FloatOps.cmpf (F := Ideal) (φ := .f32) .une a a : BitVec 1) = 0#1 := by
    show BitVec.ofBool (decide (a ≠ a)) = 0#1
    simp
  have h₃ : (FloatOps.cmpf (F := Ideal) (φ := .f32) .oeq a b : BitVec 1) = BitVec.ofBool (decide (a = b)) := rfl
  have h₄ : IntOp.cmpi .slt i j = BitVec.ofBool (i.slt j) := rfl
  unfold reducer_argmin_f32_i32
  simp only [h₁, h₂, h₃, h₄]
  by_cases hlt : a < b <;> by_cases heq : a = b <;> cases i.slt j <;>
    simp [hlt, heq, Scalar.select, IntOp.ori, IntOp.andi]

/-- One step keeps the invariant, with the number `n` added to the set. -/
theorem reducer_best {g : ℕ → EReal} {P Q : ℕ → Prop} {p : Ideal .f32 × BitVec 32} {n : ℕ} (h : Best g P 0 p.1 p.2.toNat)
    (hP : ∀ n, P n → n < 8192) (hn : n < 8192) (hQ : ∀ k, Q k ↔ P k ∨ k = n) :
    Best g Q 0 (reducer_argmin_f32_i32 p (pair g n)).1 (reducer_argmin_f32_i32 p (pair g n)).2.toNat := by
  obtain ⟨a, i⟩ := p
  change EReal at a
  change Best g P 0 a i.toNat at h
  have hi := h.index_lt hP (by norm_num)
  have hw : (BitVec.ofNat 32 n).toNat = n := by simp; omega
  have hs : i.slt (BitVec.ofNat 32 n) = true ↔ i.toNat < n := by
    rw [BitVec.slt_eq_decide, BitVec.toInt_eq_toNat_of_lt (by omega), BitVec.toInt_eq_toNat_of_lt (by omega), decide_eq_true_eq, hw]
    omega
  rw [pair, reducer_apply]
  show Best g Q 0 (if a < g n then a else g n) (if a < g n ∨ a = g n ∧ i.slt (BitVec.ofNat 32 n) = true then i else BitVec.ofNat 32 n).toNat
  have hv : (if a < g n then a else g n) = if a < g n ∨ a = g n ∧ i.slt (BitVec.ofNat 32 n) = true then a else g n := by
    by_cases h₁ : a < g n
    · rw [if_pos h₁, if_pos (.inl h₁)]
    · by_cases h₂ : a = g n
      · simp [h₂]
      · rw [if_neg h₁, if_neg (by rintro (h | h); exacts [h₁ h, h₂ h.1])]
  rw [hv]
  by_cases hg : g n = ⊤
  · -- a value of `⊤` leaves the pair, or finds it at its default
    have hk := h.skip hg hQ
    by_cases ha : a = ⊤
    · have h0 := h.top ha
      have hsub : (if a < g n ∨ a = g n ∧ i.slt (BitVec.ofNat 32 n) = true then i else BitVec.ofNat 32 n).toNat = i.toNat := by
        split
        · rfl
        · next hc =>
          have : ¬ i.toNat < n := fun hlt => hc (.inr ⟨ha.trans hg.symm, hs.2 hlt⟩)
          omega
      have hval : (if a < g n ∨ a = g n ∧ i.slt (BitVec.ofNat 32 n) = true then a else g n) = a := by
        split
        · rfl
        · exact hg.trans ha.symm
      rw [hsub, hval]
      exact hk
    · have hlt : a < g n := hg ▸ lt_top_iff_ne_top.2 ha
      rw [if_pos (.inl hlt), if_pos (.inl hlt)]
      exact hk
  · have h1 : Best g (· = n) 0 (g n) n := Best.single hg
    split
    · next hc => exact h.union_left h1 (by rwa [← hs]) hQ
    · next hc => rw [hw]; exact h.union_right h1 (by rwa [← hs]) hQ

/-- The host's arg-min over a list of numbers, whatever their order. -/
theorem foldl_best {g : ℕ → EReal} (L : List ℕ) : ∀ {P : ℕ → Prop} {p : Ideal .f32 × BitVec 32}, Best g P 0 p.1 p.2.toNat →
    (∀ n, P n → n < 8192) → (∀ n ∈ L, n < 8192) →
    Best g (fun n => P n ∨ n ∈ L) 0 ((L.map (pair g)).foldl reducer_argmin_f32_i32 p).1
      ((L.map (pair g)).foldl reducer_argmin_f32_i32 p).2.toNat := by
  induction L with
  | nil => exact fun h _ _ => h.congr fun n => by simp
  | cons n L ih =>
    intro P p h hP hL
    have hn := hL n (by simp)
    have hs := reducer_best (Q := fun k => P k ∨ k = n) h hP hn fun k => Iff.rfl
    have ht := ih hs (fun k hk => by rcases hk with hk | rfl; exacts [hP k hk, hn]) fun k hk => hL k (by simp [hk])
    exact ht.congr fun k => by simp [or_assoc]

/-- The host's arg-min of a row is the first code whose distance is least. -/
theorem argMin_best (x : FVec Ideal S32768x8192 .f32) (r : Fin 32768) :
    ∃ v, Best (onCodes fun n => x (ix2 r n)) (· < 8192) 0 v
      (argMin (F := Ideal) x (iotaInDim S32768x8192 32 1) (constant (F := Ideal) S_ .f32 0x7F800000#32) (constantI S_ 32 0#32)
        (ix1 r)).2.toNat := by
  have hdrop : ∀ i : S32768x8192.Idx, reducesTo_S32768x8192_S32768_d1.drop i = ix1 r ↔ i 0 = r := fun i => by
    rw [eq_ix2 i]
    simp [funext_iff, Fin.ext_iff, Fin.forall_fin_one, reducesTo_S32768x8192_S32768_d1.drop_apply_val_of_eq _ 0 0]
    exact Fin.ext_iff.symm
  have hpair : ∀ i : S32768x8192.Idx, i 0 = r →
      (x i, iotaInDim S32768x8192 32 1 i) = pair (onCodes fun n => x (ix2 r n)) (i 1).val := fun i h0 => by
    obtain ⟨a, b, rfl⟩ : ∃ a b, i = ix2 a b := ⟨_, _, eq_ix2 i⟩
    obtain rfl : a = r := h0
    rw [iota_apply]
    have hb : onCodes (fun n => x (ix2 a n)) b.val = x (ix2 a b) := dif_pos b.isLt
    exact Prod.ext hb.symm rfl
  have hfib : Host.argReduceFiber x (iotaInDim S32768x8192 32 1) reducesTo_S32768x8192_S32768_d1 (ix1 r)
      = (((List.finRange S32768x8192.numel).filter fun n =>
          reducesTo_S32768x8192_S32768_d1.drop (S32768x8192.rowMajor.symm n) = ix1 r).map
            fun n => (S32768x8192.rowMajor.symm n 1).val).map (pair (onCodes fun n => x (ix2 r n))) := by
    rw [Host.argReduceFiber, List.map_map]
    refine List.map_congr_left fun n hn => ?_
    have h0 := (hdrop _).1 (of_decide_eq_true (List.mem_filter.1 hn).2)
    exact hpair _ h0
  have hinit : Best (onCodes fun n => x (ix2 r n)) (fun _ => False) 0 ((constant (F := Ideal) S_ .f32 0x7F800000#32) (Shape.Idx.first h_S_))
      ((constantI S_ 32 0#32) (Shape.Idx.first h_S_)).toNat := by
    have : (constant (F := Ideal) S_ .f32 0x7F800000#32) (Shape.Idx.first h_S_) = (⊤ : EReal) := by
      show Ideal.ofBits .f32 0x7F800000#32 = ⊤
      simp [Ideal.ofBits, Ideal.ieee]
    rw [this]
    exact Best.empty fun _ h => h
  unfold argMin
  rw [Ideal.argReduce_eq_reduce2, Host.reduce2_eq_foldl_fiber, hfib]
  refine ⟨_, (foldl_best _ hinit (fun _ h => h.elim) fun n hn => ?_).congr fun n => ?_⟩
  · obtain ⟨q, -, rfl⟩ := List.mem_map.1 hn
    exact (S32768x8192.rowMajor.symm q 1).isLt
  · simp only [false_or, List.mem_map, List.mem_filter, decide_eq_true_eq]
    constructor
    · intro hn
      refine ⟨S32768x8192.rowMajor (ix2 r ⟨n, hn⟩), ⟨List.mem_finRange _, ?_⟩, ?_⟩
      · rw [hdrop, Equiv.symm_apply_apply]
        rfl
      · rw [Equiv.symm_apply_apply]
        rfl
    · rintro ⟨q, -, rfl⟩
      exact (S32768x8192.rowMajor.symm q 1).isLt

end Cert.ReferenceIdeal.Hand

end
-- ==== Proof.Equation.lean ====
/-
  The kernel's result is the reference's: at each token both hold the first code whose distance is least, and the two distances agree.
-/
module

public import proofs.«01_k».proof.Proof.Array
public import proofs.«01_k».proof.Proof.KernelRun
public import proofs.«01_k».proof.Proof.RefValue

@[expose] public section

set_option maxRecDepth 16384

noncomputable section

namespace Cert.Hand

open Idealize.ShloMosaic
open Cert.KernelIdeal (S8x4x256x32x32 S8192x256 S8x4x32x32)
open Cert.KernelIdeal.Hand (token code distance slabs)
open Cert.ReferenceIdeal.Hand (flat dist)

/-- The reference's row of batch `b`, frame `f`, row `h` and column `w`. -/
def row (b : Fin 8) (f : Fin 4) (h w : Fin 32) : Fin 32768 := ⟨b * 4096 + f * 1024 + h * 32 + w, by omega⟩

/-- The kernel's slab of batch `b` and frame `f`. -/
def slab (b : Fin 8) (f : Fin 4) : Fin 32 := ⟨b * 4 + f, by omega⟩

/-- The kernel's place in a slab of row `h` and column `w`. -/
def place (h w : Fin 32) : Fin 1024 := ⟨h * 32 + w, by omega⟩

/-- The reference's row is the kernel's token. -/
theorem flat_eq_token (x : FVec Ideal S8x4x256x32x32 .f32) (b : Fin 8) (f : Fin 4) (h w : Fin 32) (k : Fin 256) :
    (flat (F := Ideal) x (ix2 (row b f h w) k) : EReal) = token x (slab b f) (place h w) k := by
  rw [Cert.ReferenceIdeal.Hand.flat_apply]
  unfold token
  congr 2 <;> simp only [row, slab, place, Fin.mk.injEq] <;> omega

/-- The reference's distance is the kernel's. -/
theorem dist_eq_distance (x : FVec Ideal S8x4x256x32x32 .f32) (e : FVec Ideal S8192x256 .f32) (b : Fin 8) (f : Fin 4) (h w : Fin 32)
    (n : Fin 8192) :
    (dist (F := Ideal) (flat (F := Ideal) x) e (ix2 (row b f h w) n) : EReal) = distance x e (slab b f) (place h w) n := by
  refine (Cert.ReferenceIdeal.Hand.dist_apply _ _ _ _).trans ?_
  have hk := flat_eq_token x b f h w
  unfold distance
  refine congrArg₂ _ (congrArg₂ _ (Finset.sum_congr rfl fun k _ => ?_) rfl) (congrArg _ (Finset.sum_congr rfl fun k _ => ?_))
  · exact congrArg₂ (fun a b : EReal => a * b) (hk k) (hk k)
  · exact (congrArg (fun a : EReal => a * code e n k) (hk k)).trans (mul_comm _ _)

/-- The kernel's result is the reference's of the same arguments. -/
theorem out_eq_out (m : (ℓ : Loc Cert.KernelIdeal.nD Cert.KernelIdeal.τ Cert.KernelIdeal.sig) → Buf (Elt Ideal) ℓ) (c : Dev Cert.KernelIdeal.nD) :
    Cert.KernelIdeal.Hand.out (slabs m c)
      = Cert.ReferenceIdeal.Hand.out (F := Ideal) (m (c.tc.loc Cert.KernelIdeal.main_arg0)) (m (c.tc.loc Cert.KernelIdeal.main_arg1)) := by
  funext j
  obtain ⟨b, f, h, w, rfl⟩ : ∃ b f h w, j = ix4 b f h w := ⟨_, _, _, _, eq_ix4 j⟩
  obtain ⟨v, hv⟩ := Cert.KernelIdeal.Hand.array_best m c (slab b f) (place h w)
  obtain ⟨u, hu⟩ := Cert.ReferenceIdeal.Hand.argMin_best
    (dist (F := Ideal) (flat (F := Ideal) (m (c.tc.loc Cert.KernelIdeal.main_arg0))) (m (c.tc.loc Cert.KernelIdeal.main_arg1))) (row b f h w)
  rw [funext fun n => dist_eq_distance _ _ b f h w n] at hu
  rw [Cert.KernelIdeal.Hand.out_apply]
  unfold Cert.ReferenceIdeal.Hand.out
  refine Eq.trans ?_ (Cert.ReferenceIdeal.Hand.cast_apply _ b f h w).symm
  exact BitVec.eq_of_toNat_eq (hv.index_unique hu)

end Cert.Hand

end
-- ==== Proof.lean ====
/-
  The proof of `Cert.Claim`: the frames of the kernel, of its idealization and of the reference, that the idealization preserves the
  kernel, and that the idealized kernel's result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Equation
public import Idealize.ShloMosaic.Adequacy
public import Idealize.ShloMosaic.Init

@[expose] public section

noncomputable section

namespace Cert.Proof

open Idealize.ShloMosaic Idealize.SL.Sem

/-- From equal arguments the idealized kernel and the reference both run and end with the same result. -/
theorem algebraic :
    @algebraic_KernelIdeal_ReferenceIdeal Cert.KernelIdeal.Gen.facts Cert.ReferenceIdeal.Gen.facts := by
  intro m g m' g' _ hargs
  refine ⟨fun c => Cert.KernelIdeal.Hand.out (Cert.KernelIdeal.Hand.slabs m c), Cert.KernelIdeal.Hand.run m g,
    θ_run_mono (Cert.ReferenceIdeal.Hand.run m' g') fun r h c => ⟨(h c).1.trans ?_, (h c).2⟩⟩
  exact (congrArg₂ (Cert.ReferenceIdeal.Hand.out (F := Ideal)) (hargs c).1 (hargs c).2).trans (Cert.Hand.out_eq_out m c).symm

/-- Everything claimed. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m g _ => Cert.ReferenceIdeal.Hand.frame m g, trivial, algebraic⟩

end Cert.Proof

end
